-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 256]⟩ ⟨2, ![1024, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1024 : Shape := ⟨2, ![256, 1024]⟩
abbrev S1024x1024 : Shape := ⟨2, ![1024, 1024]⟩
abbrev S1024x256 : Shape := ⟨2, ![1024, 256]⟩
abbrev S3x256x256 : Shape := ⟨3, ![3, 256, 256]⟩
abbrev S3 : Shape := ⟨1, ![3]⟩
abbrev S4 : Shape := ⟨1, ![4]⟩
abbrev S_ : Shape := ⟨0, ![]⟩
abbrev S256x256 : Shape := ⟨2, ![256, 256]⟩
abbrev S1x256x256 : Shape := ⟨3, ![1, 256, 256]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S1024x256, .bf16⟩
  | .local _ .vmem, ⟨0, _⟩ => ⟨S256x1024, .bf16⟩
  | .local _ .vmem, ⟨1, _⟩ => ⟨S1024x1024, .bf16⟩
  | .local _ .vmem, ⟨2, _⟩ => ⟨S1024x256, .bf16⟩
  | .local _ .vmem, ⟨3, _⟩ => ⟨S3x256x256, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c2_i32_29 : BitVec 32) : Fin 2 → Nat :=
  let c0_36 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v45 : BitVec 32 := Scalar.addi v2 c2_i32_29
  let c4_i32_30 : BitVec 32 := 4#32
  let c0_i32_31 : BitVec 32 := 0#32
  let v46 : BitVec 1 := Scalar.cmpi .eq c4_i32_30 c0_i32_31
  let c1_i32_32 : BitVec 32 := 1#32
  let v47 : BitVec 32 := Scalar.select v46 c1_i32_32 c4_i32_30
  let v48 : BitVec 32 := Scalar.remsi v45 v47
  let c0_i32_34 : BitVec 32 := 0#32
  let v50 : BitVec 1 := Scalar.cmpi .slt v48 c0_i32_34
  let c0_i32_35 : BitVec 32 := 0#32
  let v51 : BitVec 1 := Scalar.cmpi .slt v47 c0_i32_35
  let v52 : BitVec 1 := Scalar.xori v50 v51
  let c0_i32_33 : BitVec 32 := 0#32
  let v49 : BitVec 1 := Scalar.cmpi .ne v48 c0_i32_33
  let v53 : BitVec 1 := Scalar.andi v52 v49
  let v54 : BitVec 32 := Scalar.addi v48 v47
  let v55 : BitVec 32 := Scalar.select v53 v54 v48
  let c256_i32 : BitVec 32 := 256#32
  let v56 : BitVec 32 := Scalar.muli v55 c256_i32
  let v57 : Index := Scalar.indexCast v56
  ![0, v57.toNat]
def k0_off2 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_44 : BitVec 32 := 256#32
  let v78 : BitVec 32 := Scalar.muli v2 c256_i32_44
  let c0_i32_49 : BitVec 32 := 0#32
  ![v78.toNat, 0]
def k0_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_29 : BitVec 32 := 2#32
  let v45 : BitVec 32 := Scalar.addi v2 c2_i32_29
  let c4_i32_30 : BitVec 32 := 4#32
  let c0_i32_31 : BitVec 32 := 0#32
  let v46 : BitVec 1 := Scalar.cmpi .eq c4_i32_30 c0_i32_31
  let c1_i32_32 : BitVec 32 := 1#32
  let v47 : BitVec 32 := Scalar.select v46 c1_i32_32 c4_i32_30
  let v48 : BitVec 32 := Scalar.remsi v45 v47
  let c0_i32_34 : BitVec 32 := 0#32
  let v50 : BitVec 1 := Scalar.cmpi .slt v48 c0_i32_34
  let c0_i32_35 : BitVec 32 := 0#32
  let v51 : BitVec 1 := Scalar.cmpi .slt v47 c0_i32_35
  let v52 : BitVec 1 := Scalar.xori v50 v51
  let c0_i32_33 : BitVec 32 := 0#32
  let v49 : BitVec 1 := Scalar.cmpi .ne v48 c0_i32_33
  let v53 : BitVec 1 := Scalar.andi v52 v49
  let v54 : BitVec 32 := Scalar.addi v48 v47
  let v55 : BitVec 32 := Scalar.select v53 v54 v48
  let c1_i32_47 : BitVec 32 := 1#32
  let v79 : BitVec 32 := Scalar.muli v55 c1_i32_47
  let v80 : BitVec 32 := Scalar.addi c0_i32_48 v79
  v80.toNat
def k0_dev5 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_52 : BitVec 32 := 1#32
  let v88 : BitVec 32 := Scalar.addi v2 c1_i32_52
  let c4_i32_53 : BitVec 32 := 4#32
  let c0_i32_54 : BitVec 32 := 0#32
  let v89 : BitVec 1 := Scalar.cmpi .eq c4_i32_53 c0_i32_54
  let c1_i32_55 : BitVec 32 := 1#32
  let v90 : BitVec 32 := Scalar.select v89 c1_i32_55 c4_i32_53
  let v91 : BitVec 32 := Scalar.remsi v88 v90
  let c0_i32_57 : BitVec 32 := 0#32
  let v93 : BitVec 1 := Scalar.cmpi .slt v91 c0_i32_57
  let c0_i32_58 : BitVec 32 := 0#32
  let v94 : BitVec 1 := Scalar.cmpi .slt v90 c0_i32_58
  let v95 : BitVec 1 := Scalar.xori v93 v94
  let c0_i32_56 : BitVec 32 := 0#32
  let v92 : BitVec 1 := Scalar.cmpi .ne v91 c0_i32_56
  let v96 : BitVec 1 := Scalar.andi v95 v92
  let v97 : BitVec 32 := Scalar.addi v91 v90
  let v98 : BitVec 32 := Scalar.select v96 v97 v91
  let c1_i32_71 : BitVec 32 := 1#32
  let v122 : BitVec 32 := Scalar.muli v98 c1_i32_71
  let v123 : BitVec 32 := Scalar.addi c0_i32_72 v122
  v123.toNat
def k0_dev6 (d0 : Dev nD) : Nat :=
  let c0_i32_96 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_76 : BitVec 32 := 3#32
  let v131 : BitVec 32 := Scalar.addi v2 c3_i32_76
  let c4_i32_77 : BitVec 32 := 4#32
  let c0_i32_78 : BitVec 32 := 0#32
  let v132 : BitVec 1 := Scalar.cmpi .eq c4_i32_77 c0_i32_78
  let c1_i32_79 : BitVec 32 := 1#32
  let v133 : BitVec 32 := Scalar.select v132 c1_i32_79 c4_i32_77
  let v134 : BitVec 32 := Scalar.remsi v131 v133
  let c0_i32_81 : BitVec 32 := 0#32
  let v136 : BitVec 1 := Scalar.cmpi .slt v134 c0_i32_81
  let c0_i32_82 : BitVec 32 := 0#32
  let v137 : BitVec 1 := Scalar.cmpi .slt v133 c0_i32_82
  let v138 : BitVec 1 := Scalar.xori v136 v137
  let c0_i32_80 : BitVec 32 := 0#32
  let v135 : BitVec 1 := Scalar.cmpi .ne v134 c0_i32_80
  let v139 : BitVec 1 := Scalar.andi v138 v135
  let v140 : BitVec 32 := Scalar.addi v134 v133
  let v141 : BitVec 32 := Scalar.select v139 v140 v134
  let c1_i32_95 : BitVec 32 := 1#32
  let v165 : BitVec 32 := Scalar.muli v141 c1_i32_95
  let v166 : BitVec 32 := Scalar.addi c0_i32_96 v165
  v166.toNat
def k0_off4 (d0 : Dev nD) : Fin 2 → Nat :=
  let c0_101 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_100 : BitVec 32 := 256#32
  let v174 : BitVec 32 := Scalar.muli v2 c256_i32_100
  let v175 : Index := Scalar.indexCast v174
  ![0, v175.toNat]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_107 : BitVec 32 := 256#32
  let v193 : BitVec 32 := Scalar.muli v2 c256_i32_107
  let v194 : Index := Scalar.indexCast v193
  let c0_108 : Index := 0#32
  ![v194.toNat, 0]
def k0_off6 (d0 : Dev nD) (c1_i32_109 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v196 : BitVec 32 := Scalar.addi v2 c1_i32_109
  let c4_i32_110 : BitVec 32 := 4#32
  let c0_i32_111 : BitVec 32 := 0#32
  let v197 : BitVec 1 := Scalar.cmpi .eq c4_i32_110 c0_i32_111
  let c1_i32_112 : BitVec 32 := 1#32
  let v198 : BitVec 32 := Scalar.select v197 c1_i32_112 c4_i32_110
  let v199 : BitVec 32 := Scalar.remsi v196 v198
  let c0_i32_114 : BitVec 32 := 0#32
  let v201 : BitVec 1 := Scalar.cmpi .slt v199 c0_i32_114
  let c0_i32_115 : BitVec 32 := 0#32
  let v202 : BitVec 1 := Scalar.cmpi .slt v198 c0_i32_115
  let v203 : BitVec 1 := Scalar.xori v201 v202
  let c0_i32_113 : BitVec 32 := 0#32
  let v200 : BitVec 1 := Scalar.cmpi .ne v199 c0_i32_113
  let v204 : BitVec 1 := Scalar.andi v203 v200
  let v205 : BitVec 32 := Scalar.addi v199 v198
  let v206 : BitVec 32 := Scalar.select v204 v205 v199
  ![v206.toNat]
def k0_off7 (d0 : Dev nD) (c1_i32_109 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v196 : BitVec 32 := Scalar.addi v2 c1_i32_109
  let c4_i32_110 : BitVec 32 := 4#32
  let c0_i32_111 : BitVec 32 := 0#32
  let v197 : BitVec 1 := Scalar.cmpi .eq c4_i32_110 c0_i32_111
  let c1_i32_112 : BitVec 32 := 1#32
  let v198 : BitVec 32 := Scalar.select v197 c1_i32_112 c4_i32_110
  let v199 : BitVec 32 := Scalar.remsi v196 v198
  let c0_i32_114 : BitVec 32 := 0#32
  let v201 : BitVec 1 := Scalar.cmpi .slt v199 c0_i32_114
  let c0_i32_115 : BitVec 32 := 0#32
  let v202 : BitVec 1 := Scalar.cmpi .slt v198 c0_i32_115
  let v203 : BitVec 1 := Scalar.xori v201 v202
  let c0_i32_113 : BitVec 32 := 0#32
  let v200 : BitVec 1 := Scalar.cmpi .ne v199 c0_i32_113
  let v204 : BitVec 1 := Scalar.andi v203 v200
  let v205 : BitVec 32 := Scalar.addi v199 v198
  let v206 : BitVec 32 := Scalar.select v204 v205 v199
  let c256_i32_116 : BitVec 32 := 256#32
  let v207 : BitVec 32 := Scalar.muli v206 c256_i32_116
  let c0_i32_121 : BitVec 32 := 0#32
  ![v207.toNat, 0]
abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.KernelIdeal.Mesh.lean ====
/-
The four devices, the buffers and the semaphores of the kernel, and the contents its result buffer ends with.

Device `c` computes, for every device `d`, the block `gelu (x_c · w[:, columns of d])`. Its own block it stores into
rows `c` of its result buffer; the three others it puts into the three slots of a scratch buffer and copies each into
rows `c` of the result buffer of the device it is for. Slot `k` is for the device `peer k c`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.ViewIndex
public import Idealize.ShloMosaic.Lib.ValueIdxCore
public import Idealize.ShloMosaic.Lib.Tactic

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

/-! ## Devices -/

/-- How far slot `k`'s device is ahead. -/
def ahead : Fin 3 → ℕ
  | 0 => 2
  | 1 => 1
  | 2 => 3

/-- The device slot `k` of device `c` is for. -/
def peer (k : Fin 3) (c : Dev nD) : Dev nD := ⟨(c.val + ahead k) % 4, Nat.mod_lt _ (by decide)⟩

/-- The slot of the device slot `k` is for that comes back. -/
def back : Fin 3 → Fin 3
  | 0 => 0
  | 1 => 2
  | 2 => 1

theorem peer_back (k : Fin 3) (c : Dev nD) : peer (back k) (peer k c) = c := by revert k c; decide
theorem peer_back' (k : Fin 3) (c : Dev nD) : peer k (peer (back k) c) = c := by revert k c; decide
theorem peer_ne (k : Fin 3) (c : Dev nD) : peer k c ≠ c := by revert k c; decide
theorem peer_inj {k k' : Fin 3} {c : Dev nD} (h : peer k c = peer k' c) : k = k' := by revert k k' c; decide
theorem eq_peer_iff (k : Fin 3) (c d : Dev nD) : c = peer k d ↔ d = peer (back k) c := by revert k c d; decide

/-- A device and its three peers are all the devices. -/
theorem devs_of (c : Dev nD) : (Finset.univ : Finset (Dev nD)) = [c, peer 1 c, peer 0 c, peer 2 c].toFinset := by
  revert c; decide
theorem devs_nodup (c : Dev nD) : [c, peer 1 c, peer 0 c, peer 2 c].Nodup := by revert c; decide
theorem others_of (c : Dev nD) : (Finset.univ : Finset (Dev nD)).erase c = [peer 1 c, peer 0 c, peer 2 c].toFinset := by
  revert c; decide
theorem others_nodup (c : Dev nD) : [peer 1 c, peer 0 c, peer 2 c].Nodup := by revert c; decide

theorem dev1_eq (c : Dev nD) : (⟨k0_dev1 c, k0_dev1_lt c⟩ : Dev nD) = peer 1 c := by revert c; decide +kernel
theorem dev2_eq (c : Dev nD) : (⟨k0_dev2 c, k0_dev2_lt c⟩ : Dev nD) = peer 0 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 0 c := by revert c; decide +kernel
theorem dev5_eq (c : Dev nD) : (⟨k0_dev5 c, k0_dev5_lt c⟩ : Dev nD) = peer 1 c := by revert c; decide +kernel
theorem dev6_eq (c : Dev nD) : (⟨k0_dev6 c, k0_dev6_lt c⟩ : Dev nD) = peer 2 c := by revert c; decide +kernel

/-! ## Buffers -/

abbrev xM : Memref sig .tc .vmem S256x1024 .bf16 := Memref.whole cc0_stg0_0
abbrev wM : Memref sig .tc .vmem S1024x1024 .bf16 := Memref.whole cc0_stg1_0
abbrev oM : Memref sig .tc .vmem S1024x256 .bf16 := Memref.whole cc0_stg2_0
abbrev yM : Memref sig .tc .vmem S3x256x256 .bf16 := Memref.whole cc0_scratch0

/-- Where slot `k` of the scratch buffer starts. -/
def slotOff : Fin 3 → Fin 3 → ℕ
  | 0 => ![0, 0, 0]
  | 1 => ![1, 0, 0]
  | 2 => ![2, 0, 0]

theorem slotOff_val (k : Fin 3) : slotOff k = ![k.val, 0, 0] := by fin_cases k <;> rfl
theorem slotOff_inb (k : Fin 3) : ∀ a, slotOff k a + S1x256x256.size a ≤ S3x256x256.size a := by revert k; decide

/-- Slot `k` of the scratch buffer, as the kernel stores into it. -/
abbrev slotR (k : Fin 3) : Rect S3x256x256 := Rect.unit (s := S3x256x256) (slotOff k) S1x256x256.size (slotOff_inb k)
/-- The same slot as a matrix, as the copies read it. -/
abbrev slotM (k : Fin 3) : Memref sig .tc .vmem S256x256 .bf16 :=
  (yM.slice (slotR k) (fun _ => rfl)).squeeze S256x256 squeezes_S1x256x256_S256x256

/-- Rows `j` of a result buffer: where device `j`'s block lands. -/
abbrev rowsR (j : Dev nD) : Rect S1024x256 := Rect.unit (s := S1024x256) (k0_off3 j) S256x256.size (k0_off3_inb j)
abbrev rowsM (j : Dev nD) : Memref sig .tc .vmem S256x256 .bf16 := oM.slice (rowsR j) (fun _ => rfl)

/-- Columns `j` of the weights. -/
abbrev colsR (j : Dev nD) : Rect S1024x1024 := Rect.unit (s := S1024x1024) (k0_off4 j) S1024x256.size (k0_off4_inb j)

theorem slots_disjoint {k k' : Fin 3} (h : k ≠ k') : Disjoint (slotR k).set (slotR k').set := by
  refine Rect.unit_disjoint (0 : Fin 3) ?_
  revert k k'; decide

theorem rows_disjoint {j j' : Dev nD} (h : j ≠ j') : Disjoint (rowsR j).set (rowsR j').set := by
  refine Rect.unit_disjoint (0 : Fin 2) ?_
  rw [k0_off3_eq, k0_off3_eq]
  revert j j'; decide

theorem slots_cover : (Finset.univ : Finset (Fin 3)).biUnion (fun k => (slotR k).set) = Finset.univ := by
  refine Finset.eq_univ_iff_forall.mpr fun i => Finset.mem_biUnion.mpr ?_
  have h0 : (i 0).val < 3 := (i 0).isLt
  refine ⟨⟨(i 0).val, h0⟩, Finset.mem_univ _, Rect.mem_set_unit.mpr fun a => ?_⟩
  rw [slotOff_val]
  match a with
  | ⟨0, _⟩ => exact ⟨le_rfl, Nat.lt_succ_self _⟩
  | ⟨1, _⟩ => exact ⟨Nat.zero_le _, lt_of_lt_of_eq (i 1).isLt (Nat.zero_add 256).symm⟩
  | ⟨2, _⟩ => exact ⟨Nat.zero_le _, lt_of_lt_of_eq (i 2).isLt (Nat.zero_add 256).symm⟩

theorem rows_cover : (Finset.univ : Finset (Dev nD)).biUnion (fun j => (rowsR j).set) = Finset.univ := by
  refine Finset.eq_univ_iff_forall.mpr fun i => Finset.mem_biUnion.mpr ?_
  have h0 : (i 0).val < 1024 := (i 0).isLt
  refine ⟨⟨(i 0).val / 256, by show _ < 4; omega⟩, Finset.mem_univ _, Rect.mem_set_unit.mpr fun a => ?_⟩
  rw [k0_off3_eq]
  match a with
  | ⟨0, _⟩ => show 256 * ((i 0).val / 256) ≤ (i 0).val ∧ (i 0).val < 256 * ((i 0).val / 256) + 256; omega
  | ⟨1, _⟩ => exact ⟨Nat.zero_le _, lt_of_lt_of_eq (i 1).isLt (Nat.zero_add 256).symm⟩

/-! ## Semaphores -/

/-- The runtime's barrier semaphore. -/
abbrev barS : Sem sig := (SemArray.scalar (sig.barrier 0 rfl) : Sems sig S_).sem

theorem sendOff_inb (k : Fin 3) : ∀ a, (![k.val] : Fin 1 → ℕ) a + S1.size a ≤ S3.size a := by revert k; decide
/-- The semaphore on which the copy out of slot `k` completes at its sender. -/
abbrev sendS (k : Fin 3) : DmaSem sig :=
  ((cc0_scratch1.slice (Rect.unit (s := S3) ![k.val] S1.size (sendOff_inb k))).squeeze S_ squeezes_S1_S_).sem
/-- The semaphore on which device `j`'s block completes at its receiver. -/
abbrev recvS (j : Dev nD) : DmaSem sig :=
  ((cc0_scratch2.slice (Rect.unit (s := S4) (k0_off2 j) S1.size (k0_off2_inb j))).squeeze S_ squeezes_S1_S_).sem

/-- The waits for the three arriving blocks name the semaphores of the devices one, two and three ahead. -/
theorem recvWait1 (c : Dev nD) :
    ((cc0_scratch2.slice (Rect.unit (s := S4) (k0_off6 c 1#32) S1.size (k0_off6_inb c 0))).squeeze S_ squeezes_S1_S_).sem = recvS (peer 1 c) := by
  revert c; decide +kernel
theorem recvWait2 (c : Dev nD) :
    ((cc0_scratch2.slice (Rect.unit (s := S4) (k0_off6 c 2#32) S1.size (k0_off6_inb c 1))).squeeze S_ squeezes_S1_S_).sem = recvS (peer 0 c) := by
  revert c; decide +kernel
theorem recvWait3 (c : Dev nD) :
    ((cc0_scratch2.slice (Rect.unit (s := S4) (k0_off6 c 3#32) S1.size (k0_off6_inb c 2))).squeeze S_ squeezes_S1_S_).sem = recvS (peer 2 c) := by
  revert c; decide +kernel

/-- The semaphores of one device: the barrier; the three of its outgoing copies; the four of the arriving blocks. -/
abbrev Role : Type := Unit ⊕ (Fin 3 ⊕ Fin 4)
abbrev Role.bar : Role := .inl ()
abbrev Role.snd (k : Fin 3) : Role := .inr (.inl k)
abbrev Role.rcv (j : Fin 4) : Role := .inr (.inr j)

/-- The semaphore of a role. -/
abbrev csem : Role → SemLoc sig
  | .inl _ => .reg barS
  | .inr (.inl k) => .dma (sendS k)
  | .inr (.inr j) => .dma (recvS j)

theorem csem_injective : Function.Injective csem := by decide +kernel

abbrev kcell (p : Dev nD × Role) : GSem nD τ sig := ((p.1 : Thread nD τ), csem p.2)
abbrev barCell (c : Dev nD) : GSem nD τ sig := kcell (c, .bar)
abbrev sendCell (c : Dev nD) (k : Fin 3) : GSem nD τ sig := kcell (c, .snd k)
abbrev recvCell (c : Dev nD) (j : Fin 4) : GSem nD τ sig := kcell (c, .rcv j)

theorem kcell_injective : Function.Injective kcell := by
  rintro ⟨c, r⟩ ⟨c', r'⟩ h
  have h1 : c = c' := congrArg (fun g : GSem nD τ sig => g.1.1) h
  have h2 : csem r = csem r' := congrArg Prod.snd h
  rw [h1, csem_injective h2]

/-- What one copy of a block credits a semaphore with. -/
abbrev N : ℕ := (rowsM (0 : Fin 4)).view.dmaCredit
theorem N_pos : 0 < N := View.dmaCredit_pos _ (by decide)

/-! ## Contents -/

variable (m : (ℓ : Loc nD τ sig) → Buf (Elt F) ℓ) (ρ : Dev nD → PrngReg)

/-- The state at launch: arbitrary memory, every semaphore at zero. -/
def s₀ : MemSt nD τ sig (Elt F) := ⟨m, fun _ => 0, ρ⟩

/-- Device `c`'s block of `x` and its copy of the weights, as staged for the kernel. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- Columns `j` of device `c`'s copy of the weights. -/
def wcols (c j : Dev nD) : Vec F S1024x256 .bf16 := wM.view.readAt (Elt F) (colsR j).toLoadRect (wstg m ρ c)

/-- The block device `j` computes for device `c`. -/
def blockFor (c j : Dev nD) : FVec F S256x256 .bf16 := k0_pay9 (k0_pay1 (xstg m ρ j)) (wcols m ρ j c)

/-- What device `c`'s result buffer ends with: rows `j` the block device `j` computed for it. -/
def outAt (c : Dev nD) : (cc0_stg2_0 : Ref sig .tc).ty.Contents (Elt F) := fun (i : S1024x256.Idx) =>
  blockFor m ρ c ⟨(i 0).val / 256, by have : (i 0).val < 1024 := (i 0).isLt; show _ < 4; omega⟩
    (ix2 ⟨(i 0).val % 256, Nat.mod_lt _ (by decide)⟩ (i 1))

theorem read_outAt (c j : Dev nD) : (rowsM j).view.read (Elt F) (outAt m ρ c) = blockFor m ρ c j := by
  funext x
  have hx : (x 0).val < 256 := (x 0).isLt
  have ho : k0_off3 j = ![256 * j.val, 0] := k0_off3_eq j
  have h0 : (((rowsR j).emb x) 0).val = 256 * j.val + (x 0).val := by
    show k0_off3 j 0 + 1 * (x 0).val = _; rw [ho, Nat.one_mul]; rfl
  have h1 : (((rowsR j).emb x) 1).val = (x 1).val := by
    show k0_off3 j 1 + 1 * (x 1).val = _; rw [ho, Nat.one_mul]; exact Nat.zero_add _
  show outAt m ρ c ((rowsR j).emb x) = _
  unfold outAt
  have hj : (⟨(((rowsR j).emb x) 0).val / 256, by have hj : j.val < 4 := j.isLt; show _ < 4; rw [h0]; omega⟩ : Dev nD) = j := by
    refine Fin.ext ?_; show (((rowsR j).emb x) 0).val / 256 = _; rw [h0]; omega
  refine (congrFun (congrArg (blockFor m ρ c) hj) _).trans (congrArg (blockFor m ρ c j) ?_)
  refine funext fun a => ?_
  match a with
  | ⟨0, _⟩ => refine Fin.ext ?_; show (((rowsR j).emb x) 0).val % 256 = _; rw [h0]; show _ = (x 0).val; omega
  | ⟨1, _⟩ => exact Fin.ext h1

/-- A buffer written through a view agrees, under the view, with any contents that read as what was written. -/
theorem write_agrees {s : Shape} {e : EltTy} {sp : Space} (v : View sig .tc sp s e) (f g : v.ty.Contents (Elt F)) (w : s.Idx → Elt F e)
    (h : v.read (Elt F) g = w) : ∀ i ∈ v.set, v.write (Elt F) f w Finset.univ i = g i := by
  intro i hi
  obtain ⟨x, -, rfl⟩ := Finset.mem_map.mp hi
  refine View.eq_of_read_eq ?_
  rw [View.read_write_of_mem (v := v) f w (Finset.mem_univ x), h]

/-- A load through equal offsets reads the same. -/
theorem readAt_off {s t : Shape} {e : EltTy} (M : Memref sig .tc .vmem s e) {o o' : Fin s.rank → ℕ} (size : Fin s.rank → ℕ)
    (h : o = o') (i : ∀ a, o a + size a ≤ s.size a) (i' : ∀ a, o' a + size a ≤ s.size a) (f : M.view.ty.Contents (Elt F)) :
    M.view.readAt (Elt F) (Rect.unit (s := s) o size i).toLoadRect f = M.view.readAt (Elt F) (Rect.unit (s := s) o' size i').toLoadRect f := by
  subst h; rfl

theorem off1_2 (c : Dev nD) : k0_off1 c 2#32 = k0_off4 (peer 0 c) := by revert c; decide +kernel
theorem off1_1 (c : Dev nD) : k0_off1 c 1#32 = k0_off4 (peer 1 c) := by revert c; decide +kernel
theorem off1_3 (c : Dev nD) : k0_off1 c 3#32 = k0_off4 (peer 2 c) := by revert c; decide +kernel
theorem off5_eq (c : Dev nD) : k0_off5 c = k0_off3 c := by rw [k0_off5_eq, k0_off3_eq]

/-- A block as the kernel stores it into a slot: with a leading axis of extent one. -/
abbrev lifted (b : FVec F S256x256 .bf16) : FVec F S1x256x256 .bf16 := shapeCast S1x256x256 b shapeCasts_S256x256_S1x256x256

/-- What the kernel stores into its slots are the blocks for its peers. -/
theorem stored0 (x : Vec F S256x1024 .bf16) (w : Vec F S1024x256 .bf16) :
    k0_pay5 (k0_pay2 x w) (k0_pay3 x w) (k0_pay4 x w) = lifted (k0_pay9 (k0_pay1 x) w) := rfl
theorem stored1 (x : Vec F S256x1024 .bf16) (w : Vec F S1024x256 .bf16) :
    k0_pay7 (k0_pay1 x) (k0_pay6 w) = lifted (k0_pay9 (k0_pay1 x) w) := rfl
theorem stored2 (x : Vec F S256x1024 .bf16) (w : Vec F S1024x256 .bf16) :
    k0_pay8 (k0_pay1 x) w = lifted (k0_pay9 (k0_pay1 x) w) := rfl

/-- A slot just stored into reads, as a matrix, the block stored. -/
theorem read_slot (k : Fin 3) (f : (cc0_scratch0 : Ref sig .tc).ty.Contents (Elt F)) (b : FVec F S256x256 .bf16) :
    (slotM k).view.read (Elt F) ((yM.access (slotR k)).write (Elt F) f (lifted b) Finset.univ) = b := by
  funext x
  show (yM.access (slotR k)).read (Elt F) ((yM.access (slotR k)).write (Elt F) f (lifted b) Finset.univ)
    (Shape.reshapeEquiv squeezes_S1x256x256_S256x256.numel_eq x) = b x
  rw [View.read_write_of_mem (v := yM.access (slotR k)) f (lifted b) (Finset.mem_univ _)]
  show b (Shape.reshapeEquiv _ (Shape.reshapeEquiv _ x)) = b x
  rw [Shape.reshapeEquiv_reshapeEquiv, Shape.reshapeEquiv_self]

end Cert.KernelIdeal.Exchange

end
-- ==== Proof.KernelIdeal.Protocol.lean ====
/-
The exchange as a protocol: who pays which semaphore how much, and what each payment hands over.

* The barrier semaphore of device `c` takes one unit from each of the three other devices. The unit of device `d` hands
  over rows `c` of `d`'s result buffer: `c` may now copy its block there.
* The semaphore of device `c` for the block of device `j ≠ c` takes the credit of one block, paid by the copy `j` sends.
  It hands over rows `j` of `c`'s result buffer, holding the block `j` computed for `c`. (The one for its own block is
  never paid.)
* The semaphore of device `c` for its slot `k` takes the credit of the same copy, and gives the slot back.

A device waits on its barrier while it still owes its three copies; copies stand above barriers, so no wait can close a
circle.
-/
module

public import proofs.«01_k».proof.Proof.KernelIdeal.Mesh

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: those of the staging copies, and those of the exchange (a payer is a device) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## What is handed over -/

/-- Rows `j` of device `d`'s result buffer, at contents `f`. -/
def rowsPts (d j : Dev nD) (f : Buf (Elt F) ((d : Thread nD τ).loc cc0_stg2_0)) : sProp 𝕄 :=
  (rowsM j).view.loc (d : Thread nD τ) ↦[(rowsM j).view.set]{fullShare} f
/-- Slot `k` of device `c`'s scratch buffer, at contents `f`. -/
def slotPts (c : Dev nD) (k : Fin 3) (f : Buf (Elt F) ((c : Thread nD τ).loc cc0_scratch0)) : sProp 𝕄 :=
  (slotM k).view.loc (c : Thread nD τ) ↦[(slotM k).view.set]{fullShare} f

instance rowsPts_storable (d j : Dev nD) (f) : BI.Storable (upEmb : UEmb _ 𝕄) (rowsPts (F := F) d j f) := by
  unfold rowsPts; infer_instance
instance slotPts_storable (c : Dev nD) (k : Fin 3) (f) : BI.Storable (upEmb : UEmb _ 𝕄) (slotPts (F := F) c k f) := by
  unfold slotPts; infer_instance

/-- With a unit of `c`'s barrier, device `d` hands over its rows `c`, the semaphore that announces them still unpaid. -/
def barPay (d c : Dev nD) : sProp 𝕄 := iprop((∃ f, rowsPts d c f) ∗ reached ER (recvCell d c) 0)
def recvPay (c j : Dev nD) : sProp 𝕄 := rowsPts c j (outAt m ρ c)
def sendPay (c : Dev nD) (k : Fin 3) : sProp 𝕄 := iprop(∃ f, slotPts c k f)

instance barPay_storable (d c : Dev nD) : BI.Storable (upEmb : UEmb _ 𝕄) (barPay (F := F) d c) := by unfold barPay; infer_instance
instance recvPay_storable (c j : Dev nD) : BI.Storable (upEmb : UEmb _ 𝕄) (recvPay (F := F) m ρ c j) := by unfold recvPay; infer_instance
instance sendPay_storable (c : Dev nD) (k : Fin 3) : BI.Storable (upEmb : UEmb _ 𝕄) (sendPay (F := F) c k) := by unfold sendPay; infer_instance

/-! ## The schedule -/

/-- Who pays the semaphore a role names on device `c`. -/
def payers (c : Dev nD) : Role → Finset (Dev nD)
  | .inl _ => Finset.univ.erase c
  | .inr (.inl _) => {c}
  | .inr (.inr j) => if j = c then ∅ else {j}

/-- How much one payment is. -/
def price : Role → ℕ
  | .inl _ => 1
  | .inr _ => N

/-- What payer `d` hands over. -/
def handed (c : Dev nD) : Role → Dev nD → sProp 𝕄
  | .inl _, d => barPay d c
  | .inr (.inl k), _ => sendPay c k
  | .inr (.inr j), _ => recvPay m ρ c j

instance handed_storable (c : Dev nD) (r : Role) (d : Dev nD) : BI.Storable (upEmb : UEmb _ 𝕄) (handed (F := F) m ρ c r d) := by
  rcases r with _ | _ | _ <;> (unfold handed; infer_instance)

/-- The role a semaphore plays, if any. -/
def roleOf (sm : SemLoc sig) : Option Role := Function.partialInv csem sm

theorem roleOf_csem (r : Role) : roleOf (csem r) = some r := Function.partialInv_left csem_injective r

/-- One round: every semaphore of a role is paid in round 0, and never again. -/
def sched : Rounds.Schedule (GSem nD τ sig) (Dev nD) 𝕄 where
  duties g r := if r = 0 ∧ g.1.2 = .tc then (match roleOf g.2 with | some q => payers g.1.1 q | none => ∅) else ∅
  unitless _ := False
  amount g _ _ := match roleOf g.2 with | some q => price q | none => 1
  payload g _ d := match roleOf g.2 with | some q => handed m ρ g.1.1 q d | none => iprop(emp)
  amount_pos g _ _ _ := by
    rcases roleOf g.2 with _ | (_ | _)
    · exact Nat.one_pos
    · exact Nat.one_pos
    · exact N_pos

instance sched_storable (g : GSem nD τ sig) (r : ℕ) (d : Dev nD) :
    BI.Storable (upEmb : UEmb _ 𝕄) ((sched (F := F) m ρ).payload g r d) := by
  show BI.Storable upEmb (match roleOf g.2 with | some q => handed m ρ g.1.1 q d | none => iprop(emp))
  split <;> infer_instance

section Tables
variable (c : Dev nD) (q : Role) (d : Dev nD)

theorem duties_cell : (sched (F := F) m ρ).duties (kcell (c, q)) 0 = payers c q := by
  dsimp only [sched]; rw [if_pos ⟨rfl, rfl⟩, roleOf_csem]
theorem duties_later (g : GSem nD τ sig) : ∀ r, 1 ≤ r → (sched (F := F) m ρ).duties g r = ∅ :=
  fun r hr => by dsimp only [sched]; rw [if_neg fun h => by omega]
/-- The semaphore for a device's own block is never paid. -/
theorem duties_own : ∀ r, 0 ≤ r → (sched (F := F) m ρ).duties (recvCell c c) r = ∅ := fun r _ => by
  rcases Nat.eq_zero_or_pos r with rfl | h
  · rw [duties_cell]; exact if_pos rfl
  · exact duties_later m ρ _ r h
theorem amount_cell : (sched (F := F) m ρ).amount (kcell (c, q)) 0 d = price q := by
  dsimp only [sched]; rw [roleOf_csem]
theorem payload_cell : (sched (F := F) m ρ).payload (kcell (c, q)) 0 d = handed m ρ c q d := by
  dsimp only [sched]; rw [roleOf_csem]

theorem expect_bar : (sched (F := F) m ρ).expect (barCell c) 0 = 3 := by
  unfold Schedule.expect Schedule.amountOf
  rw [duties_cell, Finset.sum_congr rfl fun d _ => amount_cell m ρ c .bar d, Finset.sum_const]
  show (Finset.univ.erase c).card • 1 = 3
  revert c; decide
theorem expect_send (k : Fin 3) : (sched (F := F) m ρ).expect (sendCell c k) 0 = N := by
  unfold Schedule.expect Schedule.amountOf
  rw [duties_cell]; exact (Finset.sum_singleton _ _).trans (amount_cell m ρ c _ _)
theorem payers_recv {j : Fin 4} (h : j ≠ c) : payers c (.rcv j) = {j} := if_neg h
theorem expect_recv {j : Fin 4} (h : j ≠ c) : (sched (F := F) m ρ).expect (recvCell c j) 0 = N := by
  unfold Schedule.expect Schedule.amountOf
  rw [duties_cell, payers_recv c h]; exact (Finset.sum_singleton _ _).trans (amount_cell m ρ c _ _)

theorem mem_bar {d : Dev nD} (h : d ≠ c) : d ∈ (sched (F := F) m ρ).duties (barCell c) 0 := by
  rw [duties_cell]; exact Finset.mem_erase.mpr ⟨h, Finset.mem_univ _⟩
theorem mem_send (k : Fin 3) : c ∈ (sched (F := F) m ρ).duties (sendCell c k) 0 := by
  rw [duties_cell]; exact Finset.mem_singleton_self _
theorem mem_recv {j : Dev nD} (h : j ≠ c) : j ∈ (sched (F := F) m ρ).duties (recvCell c j) 0 := by
  rw [duties_cell, payers_recv c h]; exact Finset.mem_singleton_self _

/-- All that comes with the three units of a barrier; -/
theorem rest_bar : bigSep ((sched (F := F) m ρ).duties (barCell c) 0 \ ∅) (fun d => (sched (F := F) m ρ).payload (barCell c) 0 d)
    = iprop(barPay (peer 1 c) c ∗ barPay (peer 0 c) c ∗ barPay (peer 2 c) c) := by
  rw [Finset.sdiff_empty, duties_cell, bigSep_congr (fun d _ => payload_cell m ρ c .bar d)]
  show bigSep (Finset.univ.erase c) (fun d => barPay d c) = _
  rw [bigSep_eq_bigSepL_of_eq [peer 1 c, peer 0 c, peer 2 c] (others_of c) (others_nodup c)]
  rfl
/-- with a copy's completion at its sender; -/
theorem rest_send (k : Fin 3) : bigSep ((sched (F := F) m ρ).duties (sendCell c k) 0 \ ∅) (fun d => (sched (F := F) m ρ).payload (sendCell c k) 0 d)
    = sendPay c k := by
  rw [Finset.sdiff_empty, duties_cell, bigSep_congr (fun d _ => payload_cell m ρ c (.snd k) d)]
  exact bigSep_singleton
/-- and with its arrival. -/
theorem rest_recv {j : Fin 4} (h : j ≠ c) :
    bigSep ((sched (F := F) m ρ).duties (recvCell c j) 0 \ ∅) (fun d => (sched (F := F) m ρ).payload (recvCell c j) 0 d) = recvPay m ρ c j := by
  rw [Finset.sdiff_empty, duties_cell, bigSep_congr (fun d _ => payload_cell m ρ c (.rcv j) d), payers_recv c h]
  exact bigSep_singleton

end Tables

/-! ## What a device owes, and in which order it may wait -/

/-- The copy to slot `k`'s device, and the unit to its barrier. -/
def owedCopy (k : Fin 3) (c : Dev nD) : CellTallies nD τ sig Unit := tallyAt (recvCell (peer k c) c) () N
def owedUnit (k : Fin 3) (c : Dev nD) : CellTallies nD τ sig Unit := tallyAt (barCell (peer k c)) () 1

/-- The three copies, summed so that the first one sent stands last. -/
def owedCopies (c : Dev nD) : CellTallies nD τ sig Unit := owedCopy 2 c + owedCopy 1 c + owedCopy 0 c
/-- All a device owes at launch: before the copies, the three units, the first one paid standing last. -/
def owedAll (c : Dev nD) : CellTallies nD τ sig Unit := owedCopies c + owedUnit 2 c + owedUnit 0 c + owedUnit 1 c

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- Arrivals stand above barriers, barriers above everything else. -/
def lev (sm : SemLoc sig) : ℕ := if sm = .reg barS then 1 else if ∃ j : Dev nD, sm = .dma (recvS j) then 2 else 0
def lv (g : GSem nD τ sig) (_ : Unit) : ℕ := lev g.2

theorem lev_bar : lev (csem .bar) = 1 := if_pos rfl
theorem lev_recv (j : Dev nD) : lev (csem (.rcv j)) = 2 := by
  unfold lev; rw [if_neg (fun h => by cases h)]; exact if_pos ⟨j, rfl⟩

theorem owedCopy_apply (k : Fin 3) (c : Dev nD) (g : GSem nD τ sig) (u : Unit) :
    owedCopy k c g u = if g = recvCell (peer k c) c then N else 0 := by
  unfold owedCopy; rw [tallyAt_apply]; simp
theorem owedUnit_apply (k : Fin 3) (c : Dev nD) (g : GSem nD τ sig) (u : Unit) :
    owedUnit k c g u = if g = barCell (peer k c) then 1 else 0 := by
  unfold owedUnit; rw [tallyAt_apply]; simp

theorem owedCopies_pos {c : Dev nD} {g : GSem nD τ sig} {u : Unit} (h : 0 < owedCopies c g u) : ∃ k, g = recvCell (peer k c) c := by
  unfold owedCopies at h
  simp only [Pi.add_apply, Finsupp.add_apply, owedCopy_apply] at h
  by_contra hn
  rw [not_exists] at hn
  simp [hn] at h

theorem owedAll_pos {c : Dev nD} {g : GSem nD τ sig} {u : Unit} (h : 0 < owedAll c g u) :
    (∃ k, g = recvCell (peer k c) c) ∨ ∃ k, g = barCell (peer k c) := by
  by_contra hn
  rw [not_or, not_exists, not_exists] at hn
  have h0 : owedCopies c g u = 0 := Nat.eq_zero_of_not_pos fun h' => not_exists.mpr hn.1 (owedCopies_pos h')
  unfold owedAll at h
  simp only [Pi.add_apply, Finsupp.add_apply, owedUnit_apply, h0] at h
  simp [hn.2] at h

/-- A device may wait for a semaphore of the lowest level whatever it owes. -/
theorem mayWait_low (c : Dev nD) (sm : SemLoc sig) (hq : lev sm = 0) (O : CellTallies nD τ sig Unit) (hO : O = owedAll c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases owedAll_pos hg with ⟨k, rfl⟩ | ⟨k, rfl⟩ <;> exact Finset.mem_singleton_self _)
      (fun p hp => by rw [Finset.mem_singleton.mp hp]; exact hq.le)
      (fun g u hg => by
        rcases owedAll_pos hg with ⟨k, rfl⟩ | ⟨k, rfl⟩
        · exact lt_of_lt_of_eq (by decide) (lev_recv c).symm
        · exact lt_of_lt_of_eq (by decide) lev_bar.symm)
  · rw [MayWait_zero]; iintro -; iempintro

/-- It may wait at its barrier while it owes its copies. -/
theorem mayWait_bar (c : Dev nD) : (levAts L lv : sProp 𝕄) ⊢ MayWait (c : Thread nD τ) (.reg barS) () (owedCopies c) :=
  MayOwe.of_cut (L := L) (lev := lv) 1 (fun p hp => by rw [Finset.mem_singleton.mp hp, L_tc]; exact Finset.mem_singleton_self _)
    (fun g u hg => by obtain ⟨k, rfl⟩ := owedCopies_pos hg; exact Finset.mem_singleton_self _)
    (fun p hp => by rw [Finset.mem_singleton.mp hp]; exact lev_bar.le)
    (fun g u hg => by obtain ⟨k, rfl⟩ := owedCopies_pos hg; exact lt_of_lt_of_eq (by decide) (lev_recv c).symm)

/-! ## What a device starts from -/

/-- Every semaphore of a role is run by the protocol, and none has been through a round. -/
def records (K : Dev nD × Role → ℕ) : sProp 𝕄 :=
  iprop((bigSep Finset.univ fun p : Dev nD × Role => cellInv ER (sched m ρ) (K p) (kcell p))
    ∗ bigSep Finset.univ fun p : Dev nD × Role => reached ER (kcell p) 0)

instance records_persistent (K : Dev nD × Role → ℕ) : BI.Persistent (records m ρ K) := by unfold records; infer_instance

theorem inv_at (K : Dev nD × Role → ℕ) (p : Dev nD × Role) : records m ρ K ⊢ cellInv ER (sched m ρ) (K p) (kcell p) := by
  refine BIBase.Entails.trans (Q := bigSep Finset.univ fun p : Dev nD × Role => cellInv ER (sched m ρ) (K p) (kcell p)) ?_ (bigSep_elim (Finset.mem_univ p))
  unfold records; iintro ⟨H, -⟩; iexact H
theorem reached_at (K : Dev nD × Role → ℕ) (p : Dev nD × Role) : records m ρ K ⊢ reached ER (kcell p) 0 := by
  refine BIBase.Entails.trans (Q := bigSep Finset.univ fun p : Dev nD × Role => reached ER (kcell p) 0) ?_ (bigSep_elim (Finset.mem_univ p))
  unfold records; iintro ⟨-, H⟩; iexact H

/-- The right to make each of a device's nine payments: for each slot, the unit to its device's barrier, the arrival of
    its copy, and the completion of its copy. -/
def payTok (c : Dev nD) (k : Fin 3) : sProp 𝕄 :=
  iprop(dutyTok ER (barCell (peer k c)) 0 c ∗ dutyTok ER (recvCell (peer k c) c) 0 c ∗ dutyTok ER (sendCell c k) 0 c)

def ghost (K : Dev nD × Role → ℕ) (c : Dev nD) : sProp 𝕄 :=
  iprop(records m ρ K ∗ (bigSep Finset.univ fun r : Role => atPos ER (kcell (c, r)) 0 ∅ 0) ∗ bigSep Finset.univ fun k : Fin 3 => payTok c k)

/-- The right to wait for its barrier's three units and for the three arrivals. -/
def creds (c : Dev nD) : sProp 𝕄 :=
  iprop(cred (tallyAt (barCell c) () 3) ∗ bigSep Finset.univ fun k : Fin 3 => cred (tallyAt (recvCell c (peer k c)) () N))

def start (c : Dev nD) : sProp 𝕄 := iprop((∃ K, ghost m ρ K c) ∗ creds c ∗ levAts L lv)

theorem bigSep_fin3 (Φ : Fin 3 → sProp 𝕄) : bigSep Finset.univ Φ = iprop(Φ 0 ∗ Φ 1 ∗ Φ 2) :=
  bigSep_univ_eq_bigSepL [0, 1, 2] (by decide) (by decide) Φ

/-- The roles on device `c`, its own block's among them, one by one. -/
theorem roles_of (c : Dev nD) : (Finset.univ : Finset Role)
    = [Role.bar, .snd 0, .snd 1, .snd 2, .rcv (peer 1 c), .rcv (peer 0 c), .rcv (peer 2 c), .rcv c].toFinset := by
  revert c; decide
theorem roles_nodup (c : Dev nD) :
    [Role.bar, .snd 0, .snd 1, .snd 2, .rcv (peer 1 c), .rcv (peer 0 c), .rcv (peer 2 c), .rcv c].Nodup := by
  revert c; decide
theorem bigSep_roles (c : Dev nD) (Φ : Role → sProp 𝕄) : bigSep Finset.univ Φ
    = iprop(Φ .bar ∗ Φ (.snd 0) ∗ Φ (.snd 1) ∗ Φ (.snd 2) ∗ Φ (.rcv (peer 1 c)) ∗ Φ (.rcv (peer 0 c)) ∗ Φ (.rcv (peer 2 c)) ∗ Φ (.rcv c)) := by
  rw [bigSep_eq_bigSepL_of_eq _ (roles_of c) (roles_nodup c)]; rfl

/-- A device and its peers, one by one. -/
theorem bigSep_devs (c : Dev nD) (Φ : Dev nD → sProp 𝕄) : bigSep Finset.univ Φ
    = iprop(Φ c ∗ Φ (peer 1 c) ∗ Φ (peer 0 c) ∗ Φ (peer 2 c)) := by
  rw [bigSep_eq_bigSepL_of_eq _ (devs_of c) (devs_nodup c)]; rfl

/-! ## A result buffer by rows, a scratch buffer by slots -/

theorem rows_split (d : Dev nD) (f : Buf (Elt F) ((d : Thread nD τ).loc cc0_stg2_0)) :
    (((d : Thread nD τ).loc cc0_stg2_0) ↦{fullShare} f : sProp 𝕄)
      = iprop(rowsPts d d f ∗ rowsPts d (peer 1 d) f ∗ rowsPts d (peer 0 d) f ∗ rowsPts d (peer 2 d) f) := by
  rw [← bigSep_devs d (fun j => rowsPts d j f)]
  exact Ring.pointsTo_blocks (ℓ := (d : Thread nD τ).loc cc0_stg2_0) (fun j => (rowsM j).view.set)
    (fun j j' h => View.disjoint_slice (v := oM.view) (rows_disjoint h))
    (by
      refine Eq.trans (Finset.biUnion_congr rfl fun j _ => ?_) rows_cover
      exact View.set_slice_whole cc0_stg2_0 (rowsR j)) f

/-- The elements of slot `k`. -/
def slotSet (k : Fin 3) : Finset S3x256x256.Idx := (slotM k).view.set

theorem slotSet_eq (k : Fin 3) : slotSet k = (slotR k).set :=
  (View.set_reshape (v := (yM.slice (slotR k) (fun _ => rfl)).view) _).trans (View.set_slice_whole cc0_scratch0 (slotR k))

theorem slotSet_disjoint (k k' : Fin 3) (h : k ≠ k') : Disjoint (slotSet k) (slotSet k') := by
  rw [slotSet_eq, slotSet_eq]; exact slots_disjoint h
theorem slotSet_cover : (Finset.univ : Finset (Fin 3)).biUnion slotSet = Finset.univ :=
  (Finset.biUnion_congr rfl fun k _ => slotSet_eq k).trans slots_cover

theorem slots_split (c : Dev nD) (f : Buf (Elt F) ((c : Thread nD τ).loc cc0_scratch0)) :
    (((c : Thread nD τ).loc cc0_scratch0) ↦{fullShare} f : sProp 𝕄) = iprop(slotPts c 0 f ∗ slotPts c 1 f ∗ slotPts c 2 f) := by
  rw [← bigSep_fin3 (fun k => slotPts c k f)]
  exact Ring.pointsTo_blocks (ℓ := (c : Thread nD τ).loc cc0_scratch0) slotSet slotSet_disjoint slotSet_cover f

theorem slots_join (c : Dev nD) (f₀ : Buf (Elt F) ((c : Thread nD τ).loc cc0_scratch0)) :
    iprop(sendPay c 0 ∗ sendPay c 1 ∗ sendPay c 2) ⊢ (iprop(∃ f, ((c : Thread nD τ).loc cc0_scratch0) ↦{fullShare} f) : sProp 𝕄) := by
  rw [← bigSep_fin3 (fun k => sendPay (F := F) c k)]
  exact Ring.pointsTo_blocks_join_exists (ℓ := (c : Thread nD τ).loc cc0_scratch0) slotSet slotSet_disjoint slotSet_cover f₀

end Cert.KernelIdeal.Exchange

end
-- ==== Proof.KernelIdeal.Body.lean ====
/-
The kernel's body on one device, run effect by effect under the protocol: from its staged operands, its right to pay and
to wait, and its scratch buffer, to its result buffer holding the four blocks computed for it (`outAt`) and every
semaphore back at zero.
-/
module

public import proofs.«01_k».proof.Proof.KernelIdeal.Protocol

@[expose] public section

noncomputable section

namespace Cert.KernelIdeal.Exchange

open Cert.KernelIdeal Cert.KernelIdeal.Gen
open Idealize.ShloMosaic Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What the launch is told of the one call -/

def Φ₀ (c : Dev nD) : sProp 𝕄 := iprop(start m ρ c ∗ ∃ f, ((c : Thread nD τ).loc cc0_scratch0) ↦{fullShare} f)
/-- After the call: the scratch buffer at some contents, and every semaphore of the exchange at zero. -/
def Φ₁ (c : Dev nD) : sProp 𝕄 :=
  iprop((∃ f, ((c : Thread nD τ).loc cc0_scratch0) ↦{fullShare} f) ∗ bigSep Finset.univ fun r : Role => semVal (kcell (c, r)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => owedAll c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

section Effects

variable (K : Dev nD × Role → ℕ)

/-! ## The exchange's own effects -/

/-- The unit to slot `k`'s device: with it, this device's rows for that one. -/
theorem wp_unit (c n : Dev nD) (k : Fin 3) (hn : n = peer k c) {s : Sem sig} (hs : s = barS) (f : Buf (Elt F) ((c : Thread nD τ).loc cc0_stg2_0))
    {a : ℕ} (ha : 1 = a) {α : Type} {Q : α → sProp 𝕄} {k' : PUnit → Prog (TpuEff nD τ sig (Elt F) Λ₀ .tc) α} {O₀ : CellTallies nD τ sig Unit} (O : CellTallies nD τ sig Unit)
    (hO : O₀ = O + owedUnit k c) (W : Waits sig Unit) :
    iprop(records m ρ K ∗ owes (c : Thread nD τ) O₀ W ∗ dutyTok ER (barCell (peer k c)) 0 c ∗ rowsPts c (peer k c) f)
      ⊢ iprop((owes (c : Thread nD τ) O W -∗ wp frame (wpE (defs₀ (F := F)) 𝒱₀ (c : Thread nD τ) none) Set.univ (k' ⟨⟩) Q)
          -∗ wp frame (wpE (defs₀ (F := F)) 𝒱₀ (c : Thread nD τ) none) Set.univ (.op (.semSignal (n : Thread nD τ) s a) k') Q) := by
  subst hn hs ha
  iintro ⟨#HR, HO, Ht, Hp⟩
  ihave #HI := (inv_at m ρ K (peer k c, .bar)) $$ HR
  ihave #Hr := (reached_at m ρ K (peer k c, .bar)) $$ HR
  ihave #Hv := (reached_at m ρ K (c, .rcv (peer k c))) $$ HR
  iapply (Rounds.wp_signal 𝒱₀ ER (sched m ρ) (c : Thread nD τ) none (dst := (peer k c : Thread nD τ)) (κ := K (peer k c, .bar))
      (d := c) (mem_bar m ρ (peer k c) (peer_ne k c).symm)
      (amount_cell m ρ (peer k c) .bar c) () O hO)
  isplitr; · iexact HI
  isplitl [HO]; · iexact HO
  isplitl [Ht]; · iexact Ht
  isplitl [Hp]
  · iapply (BIBase.Entails.of_eq (payload_cell m ρ (peer k c) .bar c).symm)
    unfold handed barPay
    isplitl [Hp]; · iexists f; iexact Hp
    iexact Hv
  iexact Hr

theorem credit_rows (j : Dev nD) : (rowsM j).view.dmaCredit = N := rfl
theorem credit_slot (k : Fin 3) : (slotM k).view.dmaCredit = N := rfl

/-- The copy of slot `k` into the rows it was given of its device's result buffer. -/
theorem wp_copy (c n : Dev nD) (k : Fin 3) (hn : n = peer k c) {ss rs : DmaSem sig} (hss : ss = sendS k) (hrs : rs = recvS c)
    {hsc : (rowsM c : Memref sig (Dev.tc n : Thread nD τ).2.kind .vmem S256x256 .bf16).view.ref.isScScratch = false}
    {hsrc : (slotM k).view.WordExact} {hdst : (rowsM c : Memref sig (Dev.tc n : Thread nD τ).2.kind .vmem S256x256 .bf16).view.WordExact}
    {hsem : DmaTarget.Typed .vmem (.dma rs) (.remote (Dev.tc n : Thread nD τ) (rowsM c : Memref sig (Dev.tc n : Thread nD τ).2.kind .vmem S256x256 .bf16) (.dma ss) hsc)}
    {α : Type} {Q : α → sProp 𝕄} {k' : PUnit → Prog (TpuEff nD τ sig (Elt F) Λ₀ .tc) α}
    (fs : Buf (Elt F) ((c : Thread nD τ).loc cc0_scratch0)) (fd : Buf (Elt F) ((peer k c : Thread nD τ).loc cc0_stg2_0))
    (hb : (slotM k).view.read (Elt F) fs = blockFor m ρ (peer k c) c)
    {O₀ : CellTallies nD τ sig Unit} (O : CellTallies nD τ sig Unit) (hO : O₀ = O + owedCopy k c) (W : Waits sig Unit) :
    iprop(records m ρ K ∗ slotPts c k fs ∗ rowsPts (peer k c) c fd ∗ owes (c : Thread nD τ) O₀ W
        ∗ dutyTok ER (sendCell c k) 0 c ∗ dutyTok ER (recvCell (peer k c) c) 0 c)
      ⊢ iprop(((cred (tallyAt (sendCell c k) () N) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (slotM k) (.remote (Dev.tc n : Thread nD τ) (rowsM c) (.dma ss) hsc) (.dma rs) hsrc hdst hsem) k') Q) := by
  subst hn hss hrs
  have h₁ : (slotPts c k fs : sProp 𝕄) ⊢ (sched m ρ).payload (sendCell c k) 0 c := by
    rw [payload_cell]; unfold handed sendPay; iintro H; iexists fs; iexact H
  have h₂ : (rowsPts (peer k c) c ((rowsM c).view.write (Elt F) fd ((slotM k).view.read (Elt F) fs) Finset.univ) : sProp 𝕄)
      ⊢ (sched m ρ).payload (recvCell (peer k c) c) 0 c := by
    rw [payload_cell]; unfold handed recvPay rowsPts
    exact BIBase.Entails.of_eq (pointsTo_congr (write_agrees (rowsM c).view fd (outAt m ρ (peer k c)) _
      ((read_outAt m ρ (peer k c) c).trans hb.symm)))
  have h := Rounds.wp_send_pointsTo 𝒱₀ ER (sched m ρ) (defs := defs₀ (F := F)) (bd := none) (c : Thread nD τ) (c' := (Dev.tc (peer k c) : Thread nD τ))
    (src := slotM k) (dst := rowsM c) (sS := csem (.snd k)) (sem := csem (.rcv c)) (hsrc := hsrc) (hdst := hdst) (hsc := hsc) (hsem := hsem)
    (k := k') (Q := Q) (q := fullShare) (fs := fs) (fd := fd) (κ₁ := K (c, .snd k)) (κ₂ := K (peer k c, .rcv c)) (r₁ := 0) (r₂ := 0)
    (d₁ := c) (d₂ := c) (Γ := PendingWaitsCtx.empty) (Es := Set.univ) (mem_send m ρ c k) (mem_recv m ρ (peer k c) (peer_ne k c).symm)
    () () N (credit_rows c) (amount_cell m ρ c (.snd k) c) (amount_cell m ρ (peer k c) (.rcv c) c) O hO (W := W) h₁ h₂
  iintro ⟨#HR, Hs, Hd, HO, Ht, Hv⟩
  ihave #HI := (inv_at m ρ K (c, .snd k)) $$ HR
  ihave #HI' := (inv_at m ρ K (peer k c, .rcv c)) $$ HR
  ihave #Hr := (reached_at m ρ K (c, .snd k)) $$ HR
  ihave #Hr' := (reached_at m ρ K (peer k c, .rcv c)) $$ HR
  unfold slotPts rowsPts
  iapply h
  isplitr; · iexact HI
  isplitr; · iexact HI'
  isplitl [Hs]; · iexact Hs
  isplitl [Hd]; · iexact Hd
  isplitl [HO]; · iexact HO
  isplitl [Ht]; · iexact Ht
  isplitr; · iexact Hr
  isplitl [Hv]; · iexact Hv
  iexact Hr'

/-- The wait for device `j`'s block. -/
theorem wp_arrival (c : Dev nD) (j : Dev nD) (hj : j ≠ c) {s : DmaSem sig} (hs : s = recvS j) {sp sp' : Space} {t t' : Shape} {e e' : EltTy}
    {src : Memref sig .tc sp' t' e'} {dst : Memref sig .tc sp t e} {hsrc : src.view.WordExact} {hdst : dst.view.WordExact}
    (hN : dst.view.dmaCredit = N) {α : Type} {Q : α → sProp 𝕄} {k' : PUnit → Prog (TpuEff nD τ sig (Elt F) Λ₀ .tc) α} (W : Waits sig Unit) :
    iprop(records m ρ K ∗ cred (tallyAt (recvCell c j) () N) ∗ owes (c : Thread nD τ) 0 W ∗ atPos ER (recvCell c j) 0 ∅ 0)
      ⊢ iprop(((owes (c : Thread nD τ) 0 (insert (SemLoc.dma (recvS j), ()) W) ∗ atPos ER (recvCell c j) 1 ∅ 0 ∗ rowsPts c j (outAt m ρ c))
              -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 s src dst hsrc hdst) k') Q) := by
  subst hs
  iintro ⟨#HR, Hc, HO, Ha⟩ Hk
  ihave #HI := (inv_at m ρ K (c, .rcv j)) $$ HR
  iapply (Rounds.wp_wait_rest_token 𝒱₀ ER (sched m ρ) (c : Thread nD τ) none (sm := .dma (recvS j)) (κ := K (c, .rcv j)) (k' := N)
      (fun K' => (wpE_waitDma2_eq 𝒱₀ (c : Thread nD τ) none Set.univ K').trans (by rw [hN])) (Set.mem_univ _) () (O := 0) (W := W) (R := 0) (m := 0) (T := ∅)
      ((Nat.zero_add N).trans (expect_recv m ρ c hj).symm)) $$ [Hc HO Ha]
  · isplitr; · iexact HI
    isplitl [Hc]; · iexact Hc
    isplitl [HO]; · iexact HO
    isplitr; · rw [MayWait_zero]; iempintro
    iexact Ha
  iintro ⟨HO, Ha, -, Hp⟩
  ihave Hp := (BIBase.Entails.of_eq (rest_recv m ρ c hj)) $$ Hp
  unfold recvPay
  iapply Hk
  isplitl [HO]; · iexact HO
  isplitl [Ha]; · iexact Ha
  iexact Hp

/-- The wait for the copy out of slot `k` to have left. -/
theorem wp_departure (c : Dev nD) (k : Fin 3) {s : DmaSem sig} (hs : s = sendS k) {sp sp' : Space} {t t' : Shape} {e e' : EltTy}
    {src : Memref sig .tc sp' t' e'} {dst : Memref sig .tc sp t e} {hsrc : src.view.WordExact} {hdst : dst.view.WordExact}
    (hN : dst.view.dmaCredit = N) {α : Type} {Q : α → sProp 𝕄} {k' : PUnit → Prog (TpuEff nD τ sig (Elt F) Λ₀ .tc) α} (W : Waits sig Unit) :
    iprop(records m ρ K ∗ cred (tallyAt (sendCell c k) () N) ∗ owes (c : Thread nD τ) 0 W ∗ atPos ER (sendCell c k) 0 ∅ 0)
      ⊢ iprop(((owes (c : Thread nD τ) 0 (insert (SemLoc.dma (sendS k), ()) W) ∗ atPos ER (sendCell c k) 1 ∅ 0 ∗ sendPay c k)
              -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 s src dst hsrc hdst) k') Q) := by
  subst hs
  iintro ⟨#HR, Hc, HO, Ha⟩ Hk
  ihave #HI := (inv_at m ρ K (c, .snd k)) $$ HR
  iapply (Rounds.wp_wait_rest_token 𝒱₀ ER (sched m ρ) (c : Thread nD τ) none (sm := .dma (sendS k)) (κ := K (c, .snd k)) (k' := N)
      (fun K' => (wpE_waitDma2_eq 𝒱₀ (c : Thread nD τ) none Set.univ K').trans (by rw [hN])) (Set.mem_univ _) () (O := 0) (W := W) (R := 0) (m := 0) (T := ∅)
      ((Nat.zero_add N).trans (expect_send m ρ c k).symm)) $$ [Hc HO Ha]
  · isplitr; · iexact HI
    isplitl [Hc]; · iexact Hc
    isplitl [HO]; · iexact HO
    isplitr; · rw [MayWait_zero]; iempintro
    iexact Ha
  iintro ⟨HO, Ha, -, Hp⟩
  ihave Hp := (BIBase.Entails.of_eq (rest_send m ρ c k)) $$ Hp
  iapply Hk
  isplitl [HO]; · iexact HO
  isplitl [Ha]; · iexact Ha
  iexact Hp

/-- A semaphore that takes no more payments is back at zero. -/
theorem close_cell (p : Dev nD × Role) (R : ℕ) (hR : ∀ r, R ≤ r → (sched (F := F) m ρ).duties (kcell p) r = ∅) :
    iprop(records m ρ K ∗ atPos ER (kcell p) R ∅ 0) ⊢ |={Set.univ}=> semVal (kcell p) 0 := by
  iintro ⟨#HR, Ha⟩
  ihave #HI := (inv_at m ρ K p) $$ HR
  imod (Rounds.cell_close ER (sched m ρ) (Set.mem_univ (K p)) (fun h => h) (R := R) hR) $$ [Ha] with Hz
  · isplitr; · iexact HI
    iexact Ha
  imodintro
  iexact Hz

/-! ## Loads and stores -/

theorem wp_load_slot (c : Dev nD) (k : Fin 3) (f : Buf (Elt F) ((c : Thread nD τ).loc cc0_scratch0)) {hl : yM.view.LoadsAt (slotR k).toLoadRect}
    {α : Type} {Q : α → sProp 𝕄} {k' : Vec F S1x256x256 .bf16 → Prog (TpuEff nD τ sig (Elt F) Λ₀ .tc) α} :
    slotPts c k f ⊢ iprop((slotPts c k f -∗ wp frame (wpE (defs₀ (F := F)) 𝒱₀ (c : Thread nD τ) none) Set.univ (k' (yM.view.readAt (Elt F) (slotR k).toLoadRect f)) Q)
      -∗ wp frame (wpE (defs₀ (F := F)) 𝒱₀ (c : Thread nD τ) none) Set.univ (.op (.load yM (slotR k).toLoadRect hl) k') Q) := by
  unfold slotPts
  exact wp_load_rect 𝒱₀ (c : Thread nD τ) none Set.univ (m := yM) (r := slotR k)
    ((View.set_slice_whole cc0_scratch0 (slotR k)).trans (slotSet_eq k).symm).subset

theorem wp_store_slot (c : Dev nD) (k : Fin 3) (f : Buf (Elt F) ((c : Thread nD τ).loc cc0_scratch0)) (w : Vec F S1x256x256 .bf16)
    {hx : (yM.access (slotR k)).Stores Finset.univ} {hm} {α : Type} {Q : α → sProp 𝕄} {k' : PUnit → Prog (TpuEff nD τ sig (Elt F) Λ₀ .tc) α} :
    slotPts c k f ⊢ iprop((slotPts c k ((yM.access (slotR k)).write (Elt F) f w Finset.univ) -∗ wp frame (wpE (defs₀ (F := F)) 𝒱₀ (c : Thread nD τ) none) Set.univ (k' ⟨⟩) Q)
      -∗ wp frame (wpE (defs₀ (F := F)) 𝒱₀ (c : Thread nD τ) none) Set.univ (.op (.store yM (slotR k) w Finset.univ hx hm) k') Q) := by
  unfold slotPts
  exact wp_store 𝒱₀ (c : Thread nD τ) none Set.univ (m := yM) (r := slotR k) (Mk := Finset.univ)
    ((View.set_slice_whole cc0_scratch0 (slotR k)).trans (slotSet_eq k).symm).subset

theorem wp_load_own (c : Dev nD) (f : Buf (Elt F) ((c : Thread nD τ).loc cc0_stg2_0)) {o : Fin 2 → ℕ} (ho : o = k0_off3 c)
    {hi : ∀ a, o a + S256x256.size a ≤ S1024x256.size a} {hl : oM.view.LoadsAt (Rect.unit (s := S1024x256) o S256x256.size hi).toLoadRect}
    {α : Type} {Q : α → sProp 𝕄} {k' : Vec F S256x256 .bf16 → Prog (TpuEff nD τ sig (Elt F) Λ₀ .tc) α} :
    rowsPts c c f ⊢ iprop((rowsPts c c f -∗ wp frame (wpE (defs₀ (F := F)) 𝒱₀ (c : Thread nD τ) none) Set.univ
            (k' (oM.view.readAt (Elt F) (Rect.unit (s := S1024x256) o S256x256.size hi).toLoadRect f)) Q)
      -∗ wp frame (wpE (defs₀ (F := F)) 𝒱₀ (c : Thread nD τ) none) Set.univ
          (.op (.load oM (Rect.unit (s := S1024x256) o S256x256.size hi).toLoadRect hl) k') Q) := by
  subst ho
  unfold rowsPts
  exact wp_load_rect 𝒱₀ (c : Thread nD τ) none Set.univ (m := oM) (r := rowsR c) (S := (rowsM c).view.set) (Finset.Subset.refl _)

/-- The block a device keeps, stored into its own rows. -/
theorem wp_store_own (c : Dev nD) (f : Buf (Elt F) ((c : Thread nD τ).loc cc0_stg2_0)) {o : Fin 2 → ℕ} (ho : o = k0_off3 c)
    {hi : ∀ a, o a + S256x256.size a ≤ S1024x256.size a} {w : Vec F S256x256 .bf16} (hw : w = blockFor m ρ c c)
    {hx : (oM.access (Rect.unit (s := S1024x256) o S256x256.size hi)).Stores Finset.univ} {hm}
    {α : Type} {Q : α → sProp 𝕄} {k' : PUnit → Prog (TpuEff nD τ sig (Elt F) Λ₀ .tc) α} :
    iprop(rowsPts c c f ∗ (rowsPts c c (outAt m ρ c) -∗ wp frame (wpE (defs₀ (F := F)) 𝒱₀ (c : Thread nD τ) none) Set.univ (k' ⟨⟩) Q))
      ⊢ wp frame (wpE (defs₀ (F := F)) 𝒱₀ (c : Thread nD τ) none) Set.univ
          (.op (.store oM (Rect.unit (s := S1024x256) o S256x256.size hi) w Finset.univ hx hm) k') Q := by
  subst ho hw
  unfold rowsPts
  iintro ⟨H, Hk⟩
  iapply (wp_store 𝒱₀ (c : Thread nD τ) none Set.univ (m := oM) (r := rowsR c) (Mk := Finset.univ) (S := (rowsM c).view.set) (Finset.Subset.refl _)) $$ H
  iintro H
  iapply Hk
  iapply (BIBase.Entails.of_eq (pointsTo_congr (write_agrees (rowsM c).view f (outAt m ρ c) _ (read_outAt m ρ c c))))
  iexact H

/-- The columns of the weights for device `j`. -/
theorem wp_load_cols (c j : Dev nD) {o : Fin 2 → ℕ} (ho : o = k0_off4 j)
    {hi : ∀ a, o a + S1024x256.size a ≤ S1024x1024.size a} {hl : wM.view.LoadsAt (Rect.unit (s := S1024x1024) o S1024x256.size hi).toLoadRect}
    {α : Type} {Q : α → sProp 𝕄} {k' : Vec F S1024x256 .bf16 → Prog (TpuEff nD τ sig (Elt F) Λ₀ .tc) α} :
    (((c : Thread nD τ).loc cc0_stg1_0) ↦{fullShare} wstg m ρ c)
      ⊢ iprop(((((c : Thread nD τ).loc cc0_stg1_0) ↦{fullShare} wstg m ρ c) -∗ wp frame (wpE (defs₀ (F := F)) 𝒱₀ (c : Thread nD τ) none) Set.univ (k' (wcols m ρ c j)) Q)
        -∗ wp frame (wpE (defs₀ (F := F)) 𝒱₀ (c : Thread nD τ) none) Set.univ
            (.op (.load wM (Rect.unit (s := S1024x1024) o S1024x256.size hi).toLoadRect hl) k') Q) := by
  subst ho
  exact wp_load 𝒱₀ (c : Thread nD τ) none Set.univ (m := wM) (Finset.subset_univ _)

theorem hz : (![0, 0] : Fin 2 → Nat) = fun _ => 0 := funext fun a => by fin_cases a <;> rfl

theorem wp_load_x (c : Dev nD) {hi : ∀ a, (![0, 0] : Fin 2 → ℕ) a + S256x1024.size a ≤ S256x1024.size a}
    {hl : xM.view.LoadsAt (Rect.unit (s := S256x1024) ![0, 0] S256x1024.size hi).toLoadRect}
    {α : Type} {Q : α → sProp 𝕄} {k' : Vec F S256x1024 .bf16 → Prog (TpuEff nD τ sig (Elt F) Λ₀ .tc) α} :
    (((c : Thread nD τ).loc cc0_stg0_0) ↦{fullShare} xstg m ρ c)
      ⊢ iprop(((((c : Thread nD τ).loc cc0_stg0_0) ↦{fullShare} xstg m ρ c) -∗ wp frame (wpE (defs₀ (F := F)) 𝒱₀ (c : Thread nD τ) none) Set.univ (k' (xstg m ρ c)) Q)
        -∗ wp frame (wpE (defs₀ (F := F)) 𝒱₀ (c : Thread nD τ) none) Set.univ
            (.op (.load xM (Rect.unit (s := S256x1024) ![0, 0] S256x1024.size hi).toLoadRect hl) k') Q) := by
  have h := wp_load 𝒱₀ (defs := defs₀ (F := F)) (c : Thread nD τ) none Set.univ (m := xM) (hl := hl) (k := k') (Q := Q) (q := fullShare) (f := xstg m ρ c)
    (Γ := PendingWaitsCtx.empty) (S := Finset.univ) (Finset.subset_univ _)
  rw [show xM.view.readAt (Elt F) (Rect.unit (s := S256x1024) ![0, 0] S256x1024.size hi).toLoadRect (xstg m ρ c) = xstg m ρ c from
    Memref.readAt_unit_zero (Elt F) cc0_stg0_0 hz _ _] at h
  exact h

/-- The wait for the three units: the three other devices' rows for this one come with it. -/
theorem wp_gather (c : Dev nD) {s : Sem sig} (hs : s = barS) {a : ℕ} (ha : 3 = a)
    {α : Type} {Q : α → sProp 𝕄} {k' : PUnit → Prog (TpuEff nD τ sig (Elt F) Λ₀ .tc) α} (W : Waits sig Unit) :
    iprop(records m ρ K ∗ levAts L lv ∗ cred (tallyAt (barCell c) () 3) ∗ owes (c : Thread nD τ) (owedCopies c) W ∗ atPos ER (barCell c) 0 ∅ 0)
      ⊢ iprop(((owes (c : Thread nD τ) (owedCopies c) (insert (SemLoc.reg barS, ()) W) ∗ atPos ER (barCell c) 1 ∅ 0
                ∗ (∃ f, rowsPts (peer 1 c) c f) ∗ (∃ f, rowsPts (peer 0 c) c f) ∗ (∃ f, rowsPts (peer 2 c) c f))
              -∗ wp frame (wpE (defs₀ (F := F)) 𝒱₀ (c : Thread nD τ) none) Set.univ (k' ⟨⟩) Q)
          -∗ wp frame (wpE (defs₀ (F := F)) 𝒱₀ (c : Thread nD τ) none) Set.univ (.op (.semWait s a) k') Q) := by
  subst hs ha
  iintro ⟨#HR, #Hlev, Hc, HO, Ha⟩ Hk
  ihave #HI := (inv_at m ρ K (c, .bar)) $$ HR
  iapply (Rounds.wp_wait_rest_token 𝒱₀ ER (sched m ρ) (c : Thread nD τ) none (sm := .reg barS) (κ := K (c, .bar)) (k' := 3)
      (wpE_semWait_eq 𝒱₀ (c : Thread nD τ) none Set.univ) (Set.mem_univ _) () (O := owedCopies c) (W := W) (R := 0) (m := 0) (T := ∅)
      ((Nat.zero_add 3).trans (expect_bar m ρ c).symm)) $$ [Hc HO Ha]
  · isplitr; · iexact HI
    isplitl [Hc]; · iexact Hc
    isplitl [HO]; · iexact HO
    isplitr; · iapply (mayWait_bar c); iexact Hlev
    iexact Ha
  iintro ⟨HO, Ha, -, Hp⟩
  ihave Hp := (BIBase.Entails.of_eq (rest_bar m ρ c)) $$ Hp
  unfold barPay
  icases Hp with ⟨⟨H1, -⟩, ⟨H0, -⟩, ⟨H2, -⟩⟩
  iapply Hk
  isplitl [HO]; · iexact HO
  isplitl [Ha]; · iexact Ha
  isplitl [H1]; · iexact H1
  isplitl [H0] <;> iassumption

end Effects

/-! ## The body -/

section Body

variable (K : Dev nD × Role → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ creds c ∗ levAts L lv ∗ ∃ f, ((c : Thread nD τ).loc cc0_scratch0) ↦{fullShare} f)
    ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ ∗ stg c cc0_stg0_0 (xstg m ρ c) ∗ stg c cc0_stg1_0 (wstg m ρ c) ∗ stg c cc0_stg2_0 (outAt m ρ c))

set_option maxHeartbeats 1600000 in
/-- The body, effect by effect in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  unfold bodyPre ghost creds payTok
  rw [bigSep_roles c, bigSep_fin3, bigSep_fin3]
  iintro ⟨⟨⟨⟨#HR, ⟨HaB, HaS0, HaS1, HaS2, HaV1, HaV0, HaV2, HaVc⟩, ⟨HtB0, HtV0, HtS0⟩, ⟨HtB1, HtV1, HtS1⟩, ⟨HtB2, HtV2, HtS2⟩⟩,
      ⟨HcB, HcV0, HcV1, HcV2⟩, #Hlev, ⟨%fy, Hy⟩⟩,
    Ho, ⟨%d0, %g0, %hg0, Hx⟩, ⟨%d1, %g1, %hg1, Hw⟩, ⟨%d2, %g2, %hg2, Hout⟩⟩, Hk⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  subst hx hw
  unfold Dat.owesAt Pipeline.owesWithin
  icases Ho with ⟨%W, %hW, HO⟩
  rw [show (dats m ρ 0 c).owed t0_0.castSucc = owedCopies c + owedUnit 2 c + owedUnit 0 c + owedUnit 1 c from rfl]
  ihave Hout := (BIBase.Entails.of_eq (rows_split c g2)) $$ Hout
  icases Hout with ⟨Hrc, Hr1, Hr0, Hr2⟩
  -- the three units, and the wait for the three that come back
  iapply (wp_unit m ρ K c _ 1 (dev1_eq c) rfl g2 (by decide) _ rfl W) $$ [HO HtB1 Hr1]
  · isplitr; · iexact HR
    isplitl [HO]; · iexact HO
    isplitl [HtB1] <;> iassumption
  iintro HO
  iapply (wp_unit m ρ K c _ 0 (dev2_eq c) rfl g2 (by decide) _ rfl W) $$ [HO HtB0 Hr0]
  · isplitr; · iexact HR
    isplitl [HO]; · iexact HO
    isplitl [HtB0] <;> iassumption
  iintro HO
  iapply (wp_unit m ρ K c _ 2 (dev3_eq c) rfl g2 (by decide) _ rfl W) $$ [HO HtB2 Hr2]
  · isplitr; · iexact HR
    isplitl [HO]; · iexact HO
    isplitl [HtB2] <;> iassumption
  iintro HO
  iapply (wp_gather m ρ K c rfl (by decide) W) $$ [HO HcB HaB]
  · isplitr; · iexact HR
    isplitr; · iexact Hlev
    isplitl [HcB]; · iexact HcB
    isplitl [HO] <;> iassumption
  iintro ⟨HO, HaB, ⟨%f1, Hd1⟩, ⟨%f0, Hd0⟩, ⟨%f2, Hd2⟩⟩
  ihave Hy := (BIBase.Entails.of_eq (slots_split c fy)) $$ Hy
  icases Hy with ⟨Hy0, Hy1, Hy2⟩
  iapply (wp_load_x m ρ c) $$ Hx; iintro Hx
  -- slot 0: the block for the device two ahead, computed, stored, sent
  iapply (wp_load_cols m ρ c (peer 0 c) (off1_2 c)) $$ Hw; iintro Hw
  rw [stored0]
  iapply (wp_load_slot c 0 fy) $$ Hy0; iintro Hy0
  iapply (wp_store_slot c 0 fy _) $$ Hy0; iintro Hy0
  unfold owedCopies
  iapply (wp_copy m ρ K c _ 0 (dev4_eq c) rfl rfl _ f0 (read_slot 0 _ _) _ rfl _) $$ [Hy0 Hd0 HO HtS0 HtV0]
  · isplitr; · iexact HR
    isplitl [Hy0]; · iexact Hy0
    isplitl [Hd0]; · iexact Hd0
    isplitl [HO]; · iexact HO
    isplitl [HtS0] <;> iassumption
  iintro ⟨HcS0, HO⟩
  -- slot 1: the device one ahead
  iapply (wp_load_cols m ρ c (peer 1 c) (off1_1 c)) $$ Hw; iintro Hw
  rw [stored1]
  iapply (wp_load_slot c 1 fy) $$ Hy1; iintro Hy1
  iapply (wp_store_slot c 1 fy _) $$ Hy1; iintro Hy1
  iapply (wp_copy m ρ K c _ 1 (dev5_eq c) rfl rfl _ f1 (read_slot 1 _ _) _ rfl _) $$ [Hy1 Hd1 HO HtS1 HtV1]
  · isplitr; · iexact HR
    isplitl [Hy1]; · iexact Hy1
    isplitl [Hd1]; · iexact Hd1
    isplitl [HO]; · iexact HO
    isplitl [HtS1] <;> iassumption
  iintro ⟨HcS1, HO⟩
  -- slot 2: the device three ahead
  iapply (wp_load_cols m ρ c (peer 2 c) (off1_3 c)) $$ Hw; iintro Hw
  rw [stored2]
  iapply (wp_load_slot c 2 fy) $$ Hy2; iintro Hy2
  iapply (wp_store_slot c 2 fy _) $$ Hy2; iintro Hy2
  iapply (wp_copy m ρ K c _ 2 (dev6_eq c) rfl rfl _ f2 (read_slot 2 _ _) 0 (zero_add _).symm _) $$ [Hy2 Hd2 HO HtS2 HtV2]
  · isplitr; · iexact HR
    isplitl [Hy2]; · iexact Hy2
    isplitl [Hd2]; · iexact Hd2
    isplitl [HO]; · iexact HO
    isplitl [HtS2] <;> iassumption
  iintro ⟨HcS2, HO⟩
  -- the block it keeps
  iapply (wp_load_cols m ρ c c rfl) $$ Hw; iintro Hw
  iapply (wp_load_own c g2 (off5_eq c)) $$ Hrc; iintro Hrc
  iapply (wp_store_own m ρ c g2 (off5_eq c) rfl)
  isplitl [Hrc]; · iexact Hrc
  iintro Hrc
  -- the three arrivals
  iapply (wp_arrival m ρ K c (peer 1 c) (peer_ne 1 c) (recvWait1 c) (by rfl) _) $$ [HcV1 HO HaV1]
  · isplitr; · iexact HR
    isplitl [HcV1]; · iexact HcV1
    isplitl [HO] <;> iassumption
  iintro ⟨HO, HaV1, Hr1⟩
  iapply (wp_arrival m ρ K c (peer 0 c) (peer_ne 0 c) (recvWait2 c) (by rfl) _) $$ [HcV0 HO HaV0]
  · isplitr; · iexact HR
    isplitl [HcV0]; · iexact HcV0
    isplitl [HO] <;> iassumption
  iintro ⟨HO, HaV0, Hr0⟩
  iapply (wp_arrival m ρ K c (peer 2 c) (peer_ne 2 c) (recvWait3 c) (by rfl) _) $$ [HcV2 HO HaV2]
  · isplitr; · iexact HR
    isplitl [HcV2]; · iexact HcV2
    isplitl [HO] <;> iassumption
  iintro ⟨HO, HaV2, Hr2⟩
  -- the three departures
  iapply (wp_departure m ρ K c 0 rfl (by rfl) _) $$ [HcS0 HO HaS0]
  · isplitr; · iexact HR
    isplitl [HcS0]; · iexact HcS0
    isplitl [HO] <;> iassumption
  iintro ⟨HO, HaS0, Hy0⟩
  iapply (wp_departure m ρ K c 1 rfl (by rfl) _) $$ [HcS1 HO HaS1]
  · isplitr; · iexact HR
    isplitl [HcS1]; · iexact HcS1
    isplitl [HO] <;> iassumption
  iintro ⟨HO, HaS1, Hy1⟩
  iapply (wp_departure m ρ K c 2 rfl (by rfl) _) $$ [HcS2 HO HaS2]
  · isplitr; · iexact HR
    isplitl [HcS2]; · iexact HcS2
    isplitl [HO] <;> iassumption
  iintro ⟨HO, HaS2, Hy2⟩
  rw [wp_ret]
  -- every semaphore is back at zero
  imod (close_cell m ρ K (c, .bar) 1 (duties_later m ρ _)) $$ [HaB] with HzB
  · isplitr <;> iassumption
  imod (close_cell m ρ K (c, .snd 0) 1 (duties_later m ρ _)) $$ [HaS0] with HzS0
  · isplitr <;> iassumption
  imod (close_cell m ρ K (c, .snd 1) 1 (duties_later m ρ _)) $$ [HaS1] with HzS1
  · isplitr <;> iassumption
  imod (close_cell m ρ K (c, .snd 2) 1 (duties_later m ρ _)) $$ [HaS2] with HzS2
  · isplitr <;> iassumption
  imod (close_cell m ρ K (c, .rcv (peer 1 c)) 1 (duties_later m ρ _)) $$ [HaV1] with HzV1
  · isplitr <;> iassumption
  imod (close_cell m ρ K (c, .rcv (peer 0 c)) 1 (duties_later m ρ _)) $$ [HaV0] with HzV0
  · isplitr <;> iassumption
  imod (close_cell m ρ K (c, .rcv (peer 2 c)) 1 (duties_later m ρ _)) $$ [HaV2] with HzV2
  · isplitr <;> iassumption
  imod (close_cell m ρ K (c, .rcv c) 0 (duties_own m ρ c)) $$ [HaVc] with HzVc
  · isplitr <;> iassumption
  imodintro
  iapply Hk
  unfold bodyPost Φ₁ Dat.owesAt Pipeline.owesWithin
  rw [show (dats m ρ 0 c).owed t0_0.succ = 0 from rfl, bigSep_roles c]
  isplitl [Hy0 Hy1 Hy2 HzB HzS0 HzS1 HzS2 HzV1 HzV0 HzV2 HzVc]
  · isplitl [Hy0 Hy1 Hy2]
    · iapply (slots_join c fy)
      isplitl [Hy0]; · iexact Hy0
      isplitl [Hy1] <;> iassumption
    isplitl [HzB]; · iexact HzB
    isplitl [HzS0]; · iexact HzS0
    isplitl [HzS1]; · iexact HzS1
    isplitl [HzS2]; · iexact HzS2
    isplitl [HzV1]; · iexact HzV1
    isplitl [HzV0]; · iexact HzV0
    isplitl [HzV2] <;> iassumption
  isplitl [HO]
  · iexists _
    isplitr
    on_goal 2 => iexact HO
    ipureintro; exact fun _ _ => Or.inl trivial
  isplitl [Hx]
  · iexists _; isplitr; · (ipureintro; rfl)
    iexact Hx
  isplitl [Hw]
  · iexists _; isplitr; · (ipureintro; rfl)
    iexact Hw
  iexists _; isplitr; · (ipureintro; rfl)
  iapply (BIBase.Entails.of_eq (rows_split c (outAt m ρ c)).symm)
  isplitl [Hrc]; · iexact Hrc
  isplitl [Hr1]; · iexact Hr1
  isplitl [Hr0] <;> iassumption

def bodyPre' (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

set_option maxRecDepth 4000 in
/-- What the launch asks of the body on device `c`. -/
theorem body_obligation (c : Dev nD) : BodyObligation (dats (F := F) m ρ 0 c) (defs₀ (F := F)) 𝒱₀ () Set.univ := fun t => by
  rw [show t = t0_0 from fin_N0 t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) cc0_scratch1 cc0_scratch2)
    (fun _ => bodyPost m ρ c)
  unfold bodyPre' Φ₀ start
  iintro ⟨⟨⟨⟨%K, Hg⟩, Hc, Hl⟩, Hscr⟩, Ho, Hrest⟩
  iapply (sound_body m ρ K c fun _ => bodyPost m ρ c)
  unfold bodyPre
  isplitr []
  · isplitl [Hg Hc Hl Hscr]
    · isplitl [Hg]; · iexact Hg
      isplitl [Hc]; · iexact Hc
      isplitl [Hl] <;> iassumption
    isplitl [Ho] <;> iassumption
  · iintro H; iexact H

end Body

end Cert.KernelIdeal.Exchange

end
-- ==== Proof.KernelIdeal.Launch.lean ====
/-
The launch: every execution of the four devices ends, each device's arguments unchanged, its result array holding the
blocks computed for it, and every semaphore at zero.
-/
module

public import proofs.«01_k».proof.Proof.KernelIdeal.Body
public import Idealize.ShloMosaic.Lib.Pipeline.CollectiveSegs

@[expose] public section

noncomputable section

namespace Cert.KernelIdeal.Exchange

open Cert.KernelIdeal Cert.KernelIdeal.Gen
open Idealize.ShloMosaic Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Semaphores, positions and rights at launch -/

/-- The kernel's own semaphores: all but the barrier. -/
abbrev osem (x : Fin 3 ⊕ Fin 4) : SemLoc sig := csem (.inr x)

theorem ownSemFacts : Pipeline.OwnSemFacts cfg0.spec osem := by decide

theorem share_eq (c : Dev nD) (w : Fin cfg0.W) : (dats m ρ 0 c).share w = fullShare := by unfold Dat.share; split <;> rfl

def allCells : Finset (GSem nD τ sig) := Finset.univ.map ⟨kcell, kcell_injective⟩

/-- The payments, named by who makes them: device, slot, and which of the slot's three. -/
abbrev tokOf (p : Dev nD × (Fin 3 × Fin 3)) : GSem nD τ sig × ℕ × Dev nD :=
  match p.2.2 with
  | 0 => (barCell (peer p.2.1 p.1), 0, p.1)
  | 1 => (recvCell (peer p.2.1 p.1) p.1, 0, p.1)
  | 2 => (sendCell p.1 p.2.1, 0, p.1)

theorem tokOf_injective : Function.Injective tokOf := by
  rintro ⟨c, k, t⟩ ⟨c', k', t'⟩ h
  have hc : c = c' := by
    have := congrArg (fun x : GSem nD τ sig × ℕ × Dev nD => x.2.2) h
    fin_cases t <;> fin_cases t' <;> exact this
  subst hc
  have hk : k = k' ∧ t = t' := by
    fin_cases t <;> fin_cases t' <;>
      have hp := Prod.ext_iff.mp (kcell_injective (congrArg Prod.fst h)) <;>
      first
      | exact ⟨peer_inj hp.1, rfl⟩
      | exact ⟨Sum.inl.inj (Sum.inr.inj hp.2), rfl⟩
      | exact absurd hp.2 (by simp)
  rw [hk.1, hk.2]

def allToks : Finset (GSem nD τ sig × ℕ × Dev nD) := Finset.univ.map ⟨tokOf, tokOf_injective⟩

def u₀ : UU := (initOf (Pipeline.cells cfgs cellOf_inj) (Pipeline.launchToks cfgs cellOf_inj), initOf allCells allToks)

/-- What device `c` is dealt, -/
def G (c : Dev nD) : sProp 𝕄 :=
  iprop((bigSep Finset.univ fun r : Role => roundState ER (sched m ρ) (kcell (c, r)) 0)
    ∗ (bigSep Finset.univ fun r : Role => iprop(atPos ER (kcell (c, r)) 0 ∅ 0 ∗ reached ER (kcell (c, r)) 0))
    ∗ bigSep Finset.univ fun k : Fin 3 => payTok c k)
/-- and what it makes of that together with the others. -/
def G' (c : Dev nD) : sProp 𝕄 := iprop(∃ K, ghost m ρ K c)

theorem bigSep_toks : bigSep allToks (fun x => (dutyTok ER x.1 x.2.1 x.2.2 : sProp 𝕄))
    = bigSep Finset.univ fun c : Dev nD => bigSep Finset.univ fun k : Fin 3 => payTok c k := by
  unfold allToks
  rw [bigSep_map, bigSep_univ_prod]
  refine bigSep_congr fun c _ => ?_
  rw [bigSep_univ_prod]
  refine bigSep_congr fun k _ => ?_
  rw [bigSep_fin3]
  rfl

theorem bigSep_cells (Φ : GSem nD τ sig → sProp 𝕄) :
    bigSep allCells Φ = bigSep Finset.univ fun c : Dev nD => bigSep Finset.univ fun r : Role => Φ (kcell (c, r)) := by
  unfold allCells; rw [bigSep_map, bigSep_univ_prod]; rfl

theorem deal : BI.own (ER (initOf allCells allToks)) ⊢ (|==> bigSep Finset.univ (G m ρ) : sProp 𝕄) := by
  iintro HX
  imod (Rounds.fund ER (sched m ρ) allCells allToks) $$ HX with ⟨Hst, Hr, Hat, Htok⟩
  imodintro
  ihave Hst := (BIBase.Entails.of_eq (bigSep_cells fun g => roundState ER (sched m ρ) g 0)) $$ Hst
  ihave Hat := (BIBase.Entails.of_eq (bigSep_cells fun g => atPos ER g 0 ∅ 0)) $$ Hat
  ihave Hr := (BIBase.Entails.of_eq (bigSep_cells fun g => reached ER g 0)) $$ Hr
  ihave Htok := (BIBase.Entails.of_eq (bigSep_toks (F := F))) $$ Htok
  unfold G; simp only [bigSep_sep']
  isplitl [Hst]; · iexact Hst
  isplitl [Hat Hr]
  · isplitl [Hat] <;> iassumption
  iexact Htok

/-- The barrier is the launch's one semaphore of the runtime's; with the kernel's own, these are all the roles. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun r : Role => semVal (kcell (c, r)) 0 : sProp 𝕄) := by
  rw [bigSep_univ_eq_bigSepL [Role.bar, .snd 0, .snd 1, .snd 2, .rcv 0, .rcv 1, .rcv 2, .rcv 3] (by decide) (by decide),
    Pipeline.ownSems0_eq_of_list c osem [.inl 0, .inl 1, .inl 2, .inr 0, .inr 1, .inr 2, .inr 3] (by decide) (by decide)]
  unfold unscopedSems0
  rw [bigSep_eq_bigSepL_of_eq [SemLoc.reg barS] (by decide) (by decide)]
  rfl

theorem alloc_cells (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun r : Role => iprop(∃ κ : ℕ, cellInv ER (sched m ρ) κ (kcell (c, r))))
          ∗ (bigSep Finset.univ fun r : Role => iprop(atPos ER (kcell (c, r)) 0 ∅ 0 ∗ reached ER (kcell (c, r)) 0))
          ∗ bigSep Finset.univ fun k : Fin 3 => payTok c k) := by
  have hAlloc : iprop((bigSep Finset.univ fun r : Role => semVal (kcell (c, r)) 0) ∗ bigSep Finset.univ fun r : Role => roundState ER (sched m ρ) (kcell (c, r)) 0)
      ⊢ (|={Set.univ}=> bigSep Finset.univ fun r : Role => iprop(∃ κ : ℕ, cellInv ER (sched m ρ) κ (kcell (c, r))) : sProp 𝕄) := by
    rw [← bigSep_sep']
    exact (bigSep_mono fun r _ => (Rounds.body_intro ER (sched m ρ) (kcell (c, r))).trans inv_alloc).trans (bigSep_fupd _ _)
  unfold G
  iintro ⟨Hos, Hus, Hst, Hat, Htok⟩
  ihave Hv := (BIBase.Entails.of_eq (sems0_eq (F := F) c)) $$ [Hos Hus]
  · isplitl [Hus] <;> iassumption
  imod hAlloc $$ [Hv Hst] with Hinv
  · isplitl [Hv] <;> iassumption
  imodintro
  isplitl [Hinv]; · iexact Hinv
  isplitl [Hat]; · iexact Hat
  iexact Htok

theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Role → ℕ) (c : Dev nD) :
    iprop(records m ρ K ∗ (bigSep Finset.univ fun r : Role => atPos ER (kcell (c, r)) 0 ∅ 0) ∗ bigSep Finset.univ fun k : Fin 3 => payTok c k)
      ⊢ G' m ρ c := by
  unfold G' ghost
  iintro H; iexists K; iexact H

/-- Every device learns of every device's semaphores. -/
theorem share_records :
    (bigSep Finset.univ fun c : Dev nD => iprop((bigSep Finset.univ fun r : Role => iprop(∃ κ : ℕ, cellInv ER (sched m ρ) κ (kcell (c, r))))
          ∗ (bigSep Finset.univ fun r : Role => iprop(atPos ER (kcell (c, r)) 0 ∅ 0 ∗ reached ER (kcell (c, r)) 0))
          ∗ bigSep Finset.univ fun k : Fin 3 => payTok c k) : sProp 𝕄)
      ⊢ bigSep Finset.univ (G' m ρ) := by
  rw [bigSep_sep', bigSep_sep', ← bigSep_univ_prod (fun p : Dev nD × Role => iprop(∃ κ : ℕ, cellInv ER (sched m ρ) κ (kcell p))),
    bigSep_congr (s := Finset.univ) (fun (c : Dev nD) _ => bigSep_sep' Finset.univ (fun r : Role => (atPos ER (kcell (c, r)) 0 ∅ 0 : sProp 𝕄)) (fun r => reached ER (kcell (c, r)) 0)),
    bigSep_sep', ← bigSep_univ_prod (fun p : Dev nD × Role => (reached ER (kcell p) 0 : sProp 𝕄))]
  iintro ⟨HI, ⟨Hat, #HR⟩, Htok⟩
  ihave HK := (BI.bigSep_exists_pi Finset.univ (fun (p : Dev nD × Role) (κ : ℕ) => (cellInv ER (sched m ρ) κ (kcell p) : sProp 𝕄))) $$ HI
  icases HK with ⟨%K, #HI⟩
  iapply (bigSep_beside (R := records m ρ K) fun c _ => ghost_intro m ρ K c)
  isplitr
  · unfold records; isplitl; · iexact HI
    iexact HR
  · rw [bigSep_sep']
    isplitl [Hat] <;> iassumption

theorem set_up : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => alloc_cells m ρ c).trans (bigSep_fupd _ _)).trans (BI.fupd_mono (share_records m ρ))

/-! ## What is owed to each semaphore -/

theorem owed_bar (d c : Dev nD) : owedAll d (barCell c) () = if d = c then 0 else 1 := by
  have h0 : owedCopies d (barCell c) () = 0 := Nat.eq_zero_of_not_pos fun h => by
    obtain ⟨k, hk⟩ := owedCopies_pos h
    exact absurd (congrArg Prod.snd (kcell_injective hk)) (by simp)
  unfold owedAll
  simp only [Pi.add_apply, Finsupp.add_apply, owedUnit_apply, h0, kcell_injective.eq_iff, Prod.mk.injEq, and_true, Nat.zero_add]
  revert d c; decide

theorem owed_recv (d c j : Dev nD) : owedAll d (recvCell c j) () = N * if d = j ∧ d ≠ c then 1 else 0 := by
  have hb (k : Fin 3) : owedUnit k d (recvCell c j) () = 0 := by
    rw [owedUnit_apply, if_neg fun h => absurd (congrArg Prod.snd (kcell_injective h)) (by simp)]
  have hc (k : Fin 3) : owedCopy k d (recvCell c j) () = N * if c = peer k d ∧ j = d then 1 else 0 := by
    rw [owedCopy_apply, mul_ite, Nat.mul_one, Nat.mul_zero]
    exact if_congr (kcell_injective.eq_iff.trans (by simp)) rfl rfl
  unfold owedAll owedCopies
  simp only [Pi.add_apply, Finsupp.add_apply, hb, hc, Nat.add_zero, ← Nat.mul_add]
  congr 1
  clear hb hc
  revert d c j; decide

theorem launch_bar (c : Dev nD) :
    tallyOn (barCell c) (launchCredit (Pipeline.owing owedAll) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c : Dev nD) (k : Fin 3) :
    tallyOn (recvCell c (peer k c)) (launchCredit (Pipeline.owing owedAll) 0 (recvCell c (peer k c)))
      = (tallyAt (recvCell c (peer k c)) () N : CellTallies nD τ sig Unit) := by
  unfold tallyAt; refine congrArg _ (Finsupp.ext fun u => ?_); cases u
  rw [Pipeline.launchCredit_owing, Finsupp.single_eq_same, Finset.sum_congr rfl fun d _ => owed_recv d c (peer k c), ← Finset.mul_sum]
  refine (congrArg (N * ·) ?_).trans (Nat.mul_one N)
  revert k c; decide

theorem creds_intro (c : Dev nD) : (Pipeline.launchCred owedAll c : sProp 𝕄) ⊢ creds c := by
  have h : (Pipeline.launchCred owedAll c : sProp 𝕄)
      ⊢ bigSep Finset.univ fun r : Role => cred (tallyOn (kcell (c, r)) (launchCredit (Pipeline.owing owedAll) 0 (kcell (c, r)))) := by
    unfold Pipeline.launchCred
    refine BIBase.Entails.trans (bigSep_subset (Finset.subset_univ (Finset.univ.map ⟨csem, csem_injective⟩))) (BIBase.Entails.of_eq ?_)
    rw [bigSep_map]; rfl
  refine h.trans ?_
  unfold creds
  rw [bigSep_roles c, bigSep_fin3, launch_bar, launch_recv, launch_recv, launch_recv]
  iintro ⟨HB, -, -, -, H1, H0, H2, -⟩
  isplitl [HB]; · iexact HB
  isplitl [H0]; · iexact H0
  isplitl [H1] <;> iassumption

/-! ## The run -/

theorem start_intro (c : Dev nD) :
    iprop(Pipeline.unscopedRestP Pipeline.Prefetch.none cfg0.spec c (fun b => m ((c : Thread nD τ).loc b)) ∗ levAts L lv
        ∗ Pipeline.launchCred owedAll c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc] <;> iassumption
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [← sems0_eq]
  iintro ⟨Hr, Hu, Ho⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-- What the array of window `w` ends with on device `c`. -/
def finalA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every semaphore at zero, every execution ends, each array at its final contents and every
    semaphore at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owedAll) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (deal m ρ) $$ HX with HG
      imodintro
      isplitl [HP] <;> iassumption)
    (hglob := set_up m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments are read only. -/
theorem finalA_x (c : Dev nD) : finalA m ρ c (0 : Fin 3) = m ((c : Thread nD τ).loc main_arg0) :=
  (dats (F := F) m ρ 0 c).arrAt_in (0 : Fin 3) rfl _
theorem finalA_w (c : Dev nD) : finalA m ρ c (1 : Fin 3) = m ((c : Thread nD τ).loc main_arg1) :=
  (dats (F := F) m ρ 0 c).arrAt_in (1 : Fin 3) rfl _

/-- Run to the end with its arguments unchanged and every semaphore at zero. -/
theorem run_frame : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun r h => ⟨fun c => ⟨(h.1 c (0 : Fin 3)).trans (finalA_x m ρ c), (h.1 c (1 : Fin 3)).trans (finalA_w m ρ c)⟩, h.2⟩) (run_main m ρ)

end Cert.KernelIdeal.Exchange

end
-- ==== Proof.SameProgram.lean ====
/-
The program read on bit patterns and the program read on extended reals are one text, so what is shown of the second over
any floats holds of the first.
-/
module

public import proofs.«01_k».proof.Defs
public import proofs.«01_k».proof.Proof.Gen.Kernel
public import proofs.«01_k».proof.Proof.KernelIdeal.Launch

@[expose] public section

noncomputable section

namespace Cert.SameProgram

open Idealize.ShloMosaic Idealize.SL.Sem

variable {F : FTy → Type} [FloatOps F]

theorem defs₀_eq : Cert.Kernel.defs₀ (F := F) = Cert.KernelIdeal.defs₀ (F := F) := by
  unfold Cert.Kernel.defs₀ Cert.KernelIdeal.defs₀
  refine congrArg Defs.onTc (funext fun l => funext fun p => ?_)
  obtain ⟨_ | l, h⟩ := l
  · rfl
  · exact absurd h (by omega)

theorem defs_eq : Cert.Kernel.defs (F := F) = Cert.KernelIdeal.defs (F := F) :=
  congrArg (Pipeline.defs Cert.KernelIdeal.pcfgs) defs₀_eq

/-- The program on bit patterns runs to the end, its arguments unchanged, every semaphore at zero. -/
theorem frame_kernel : Cert.quiescent_Kernel := fun m g _ => by
  rw [defs_eq]
  exact Cert.KernelIdeal.Exchange.run_frame (F := Bits) m g

end Cert.SameProgram

end
-- ==== Proof.Value.lean ====
/-
The value: what the four devices compute is, block by block, the activation of the product of the whole arrays.
-/
module

public import proofs.«01_k».proof.Defs
public import proofs.«01_k».proof.Proof.KernelIdeal.Launch
public import proofs.«01_k».proof.Proof.Gen.ReferenceIdeal
public import proofs.«01_k».proof.Proof.Gen.ReferenceIdeal.Run
public import Idealize.ShloMosaic.Lib.Pointwise
public import Idealize.ShloMosaic.Lib.LayoutAt
public import Idealize.ShloMosaic.Lib.Pipeline.ValueKit

@[expose] public section

noncomputable section

namespace Cert.Value

open Idealize.ShloMosaic Idealize.ShloMosaic.TcCoe Idealize.SL.Sem

/-! ## One element -/

/-- The activation of one extended real: half of it, times one more than the hyperbolic tangent of a cubic of it. -/
def act (y : EReal) : EReal :=
  (Ideal.ofBits .f32 0x3F000000#32 * y)
    * (Ideal.ofBits .f32 0x3F800000#32
      + Ideal.tanh (Ideal.ofBits .f32 0x3F4C422A#32 * (y + Ideal.ofBits .f32 0x3D372713#32 * (y * y * y))))

/-- The whole result: the activation of each element of the product of the two arrays. -/
def whole (X W : Cert.ReferenceIdeal.S1024x1024.Idx → EReal) : Cert.ReferenceIdeal.S1024x1024.Idx → EReal :=
  fun i => act (∑ k : Fin 1024, X (ix2 (i 0) k) * W (ix2 k (i 1)))

section Kernel
open Cert.KernelIdeal Cert.KernelIdeal.Gen

set_option maxRecDepth 16384 in
/-- An element of a block the kernel computes: the activation of the product of a row and a column. -/
theorem pay_apply (x : Vec Ideal S256x1024 .bf16) (w : Vec Ideal S1024x256 .bf16) (i : S256x256.Idx) :
    k0_pay9 (k0_pay1 x) w i = act (∑ k : Fin 1024, x (ix2 (i 0) k) * w (ix2 k (i 1))) := by
  pointwise [k0_pay9, k0_pay1, act]
  simp only [mul_assoc]

open Exchange

variable (m : (ℓ : Loc nD τ sig) → Buf (Elt Ideal) ℓ) (ρ : Dev nD → PrngReg)

/-- What device `c` is given: its rows of the left factor, and the right factor. -/
abbrev rowsOf (c : Dev nD) : S256x1024.Idx → EReal := m ((c : Thread nD τ).loc main_arg0)
abbrev rightOf (c : Dev nD) : S1024x1024.Idx → EReal := m ((c : Thread nD τ).loc main_arg1)

/-- Each window's one block is its whole array. -/
theorem xstg_eq (c : Dev nD) : xstg m ρ c = rowsOf m c := by
  funext (j : S256x1024.Idx)
  show m ((c : Thread nD τ).loc main_arg0) ((win0_0.blk t0_0).view.emb j) = _
  refine congrArg (m ((c : Thread nD τ).loc main_arg0)) (funext fun a => Fin.ext ?_)
  have h : win0_0.index t0_0 (0 : Fin 2) = 0 ∧ win0_0.index t0_0 (1 : Fin 2) = 0 := by decide +kernel
  match a with
  | ⟨0, _⟩ => show win0_0.index t0_0 (0 : Fin 2) * 256 + 1 * (j 0).val = (j 0).val; omega
  | ⟨1, _⟩ => show win0_0.index t0_0 (1 : Fin 2) * 1024 + 1 * (j 1).val = (j 1).val; omega

theorem wstg_eq (c : Dev nD) : wstg m ρ c = rightOf m c := by
  funext (j : S1024x1024.Idx)
  show m ((c : Thread nD τ).loc main_arg1) ((win0_1.blk t0_0).view.emb j) = _
  refine congrArg (m ((c : Thread nD τ).loc main_arg1)) (funext fun a => Fin.ext ?_)
  have h : win0_1.index t0_0 (0 : Fin 2) = 0 ∧ win0_1.index t0_0 (1 : Fin 2) = 0 := by decide +kernel
  match a with
  | ⟨0, _⟩ => show win0_1.index t0_0 (0 : Fin 2) * 1024 + 1 * (j 0).val = (j 0).val; omega
  | ⟨1, _⟩ => show win0_1.index t0_0 (1 : Fin 2) * 1024 + 1 * (j 1).val = (j 1).val; omega

/-- The result array ends with the blocks computed for its device. -/
theorem finalA_out (c : Dev nD) : finalA m ρ c (2 : Fin 3) = outAt m ρ c := by
  unfold finalA
  refine (dats m ρ 0 c).arrAt_eq_of_after_last (2 : Fin 3) t0_0 (by decide +kernel) _ fun j => ?_
  blk_simp
  rfl

/-- An element of a block, from the arguments: the rows of device `j`, and the columns of device `c`. -/
theorem blockFor_apply (c j : Dev nD) (i : S256x256.Idx) :
    blockFor m ρ c j i = act (∑ k : Fin 1024, rowsOf m j (ix2 (i 0) k)
      * rightOf m j (ix2 k ⟨256 * c.val + (i 1).val, by
          have hc : c.val < 4 := c.isLt; have hi : (i 1).val < 256 := (i 1).isLt; show _ < 1024; omega⟩)) := by
  have hw (k : Fin 1024) : wcols m ρ j c (ix2 k (i 1)) = rightOf m j (ix2 k ⟨256 * c.val + (i 1).val, by
      have hc : c.val < 4 := c.isLt; have hi : (i 1).val < 256 := (i 1).isLt; show _ < 1024; omega⟩) := by
    have ho : k0_off4 c = ![0, 256 * c.val] := k0_off4_eq c
    unfold wcols
    rw [wstg_eq]
    refine congrArg (rightOf m j) (funext fun a => Fin.ext ?_)
    match a with
    | ⟨0, _⟩ => show k0_off4 c 0 + 1 * k.val = k.val; rw [ho]; show 0 + 1 * k.val = k.val; omega
    | ⟨1, _⟩ => show k0_off4 c 1 + 1 * (i 1).val = 256 * c.val + (i 1).val; rw [ho]; show 256 * c.val + 1 * (i 1).val = _; omega
  unfold blockFor
  rw [pay_apply, xstg_eq]
  exact congrArg act (Finset.sum_congr rfl fun k _ => congrArg _ (hw k))

/-- Where each device holds its block of rows of `X` and all of `W`, the blocks computed for it are its block of columns
    of the whole result. -/
theorem outAt_eq (X W : Cert.ReferenceIdeal.S1024x1024.Idx → EReal)
    (hx : ∀ c : Dev nD, m ((c : Thread nD τ).loc main_arg0) = Layout.block ⟨2, ![256, 1024]⟩ ⟨2, ![1024, 1024]⟩ 0 4 c X)
    (hw : ∀ c : Dev nD, m ((c : Thread nD τ).loc main_arg1) = W) (c : Dev nD) :
    outAt m ρ c = Layout.block ⟨2, ![1024, 256]⟩ ⟨2, ![1024, 1024]⟩ 1 4 c (whole X W) := by
  funext (i : S1024x256.Idx)
  have hi0 : (i 0).val < 1024 := (i 0).isLt
  have hi1 : (i 1).val < 256 := (i 1).isLt
  unfold outAt
  rw [blockFor_apply, Layout.block_apply]
  unfold whole
  refine congrArg act (Finset.sum_congr rfl fun k _ => ?_)
  refine congrArg₂ (fun a b : EReal => a * b) ((congrFun (hx _) _).trans (congrArg X ?_)) ((congrFun (hw _) _).trans (congrArg W ?_))
  · shard_ext
  · shard_ext

/-- The kernel runs to the end with its arguments unchanged and each device's block of the whole result in its result. -/
theorem run_kernel (X W : Cert.ReferenceIdeal.S1024x1024.Idx → EReal)
    (hx : ∀ c : Dev nD, m ((c : Thread nD τ).loc main_arg0) = Layout.block ⟨2, ![256, 1024]⟩ ⟨2, ![1024, 1024]⟩ 0 4 c X)
    (hw : ∀ c : Dev nD, m ((c : Thread nD τ).loc main_arg1) = W) :
    θ_run defs (onTc (τ := τ) (main (F := Ideal))) ⟨m, fun _ => 0, ρ⟩ fun r => ∀ c : Dev nD,
      r.2.mem ((c : Thread nD τ).loc main_v1) = Layout.block ⟨2, ![1024, 256]⟩ ⟨2, ![1024, 1024]⟩ 1 4 c (whole X W)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c (2 : Fin 3)).trans (finalA_out m ρ c)).trans (outAt_eq m ρ X W hx hw c),
    (h.1 c (0 : Fin 3)).trans (finalA_x m ρ c), (h.1 c (1 : Fin 3)).trans (finalA_w m ρ c)⟩) (run_main m ρ)

end Kernel

section Reference
open Cert.ReferenceIdeal Cert.ReferenceIdeal.Gen

variable (m : (ℓ : Loc nD τ sig) → Buf (Elt Ideal) ℓ) (ρ : Dev nD → PrngReg)

set_option maxRecDepth 16384 in
/-- The reference runs to the end with its arguments unchanged and `whole` of them in its result. -/
theorem run_reference : θ_run defs (onTc (τ := τ) (main (F := Ideal))) ⟨m, fun _ => 0, ρ⟩ fun r =>
    r.2.mem (((0 : Dev nD).tc : Thread nD τ).loc main_v16)
        = whole (m (((0 : Dev nD).tc : Thread nD τ).loc main_arg0)) (m (((0 : Dev nD).tc : Thread nD τ).loc main_arg1))
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1) :=
  (θ_run defs _ _).mono (fun r h => ⟨(h 0).1.trans (by
    funext (i : S1024x1024.Idx)
    pointwise [whole, act]), (h 0).2.1, (h 0).2.2⟩)
    (Cert.ReferenceIdeal.Value.run m ρ)

end Reference

end Cert.Value

end
-- ==== Proof.lean ====
/-
  A matrix product followed by an activation, its columns exchanged between four devices.

  Each device multiplies its rows by the whole right factor and sends every other device that device's columns, so each ends
  with all the rows of its own columns. Shown here: the program runs to the end from any memory, on bit patterns and on
  extended reals, with its arguments unchanged and every semaphore back at zero; and over the extended reals each device
  ends with its block of columns of the one-device reference's result.

  Proof/KernelIdeal/Mesh.lean      the four devices, the arrays and their parts, the semaphores, the values
  Proof/KernelIdeal/Protocol.lean  who pays which semaphore what
  Proof/KernelIdeal/Body.lean      one device's run under that protocol
  Proof/KernelIdeal/Launch.lean    the launch of all four
  Proof/SameProgram.lean           the program on bit patterns, whose text is the same
  Proof/Value.lean                 the two results compared
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.SameProgram
public import proofs.«01_k».proof.Proof.KernelIdeal.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The program on extended reals runs to the end, its arguments unchanged, every semaphore at zero. -/
theorem frame_kernelIdeal : Cert.quiescent_KernelIdeal := fun m g _ => Cert.KernelIdeal.Exchange.run_frame (F := Ideal) m g

/-- So does the reference, which has no semaphore. -/
theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- Each device's result is its block of columns of the reference's. -/
theorem algebraic : Cert.algebraic_KernelIdeal_ReferenceIdeal := fun m g m' g' _ h =>
  ⟨_, Cert.Value.run_kernel m g _ _ (fun c => (h c).1) (fun c => (h c).2), Cert.Value.run_reference m' g'⟩

theorem claim : Cert.Claim :=
  ⟨Cert.Kernel.Gen.facts, Cert.KernelIdeal.Gen.facts, Cert.ReferenceIdeal.Gen.facts,
    Cert.SameProgram.frame_kernel, frame_kernelIdeal, frame_reference, trivial, algebraic⟩

end Cert.Proof

end
